-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S512x2048x3 : Shape := ⟨3, ![512, 2048, 3]⟩
abbrev S512 : Shape := ⟨1, ![512]⟩
abbrev S29x16 : Shape := ⟨2, ![29, 16]⟩
abbrev S5x16 : Shape := ⟨2, ![5, 16]⟩
abbrev S4x16 : Shape := ⟨2, ![4, 16]⟩
abbrev S8x16 : Shape := ⟨2, ![8, 16]⟩
abbrev S6160x128 : Shape := ⟨2, ![6160, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S512x2048x3 : S_.BroadcastsInDim S512x2048x3 (![] : Fin 0 → Fin S512x2048x3.rank)
  reducesTo_S512x2048x3_S_d0_1_2 : S512x2048x3.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : IVec S512x2048x3 32) (main_arg1 : IVec S512 32) (main_arg2 : FVec F S29x16 .f32) (main_arg3 : FVec F S5x16 .f32) (main_arg4 : FVec F S4x16 .f32) (main_arg5 : FVec F S8x16 .f32) (main_arg6 : FVec F S6160x128 .f32) (main_arg7 : FVec F S128 .f32) (main_arg8 : FVec F S128x64 .f32) (main_arg9 : FVec F S64 .f32) (main_arg10 : FVec F S64x1 .f32) (main_arg11 : FVec F S1 .f32) : IVec S_ 1 :=
  let main_c : IVec S_ 32 := constantI S_ 32 0#32
  let main_v0 : IVec S512x2048x3 32 := broadcastInDim S512x2048x3 ![] bcast_S_S512x2048x3 main_c
  let main_v1 : IVec S512x2048x3 1 := cmpi .sge main_arg0 main_v0
  let main_c_0 : IVec S_ 1 := constantI S_ 1 1#1
  let main_v2 : IVec S_ 1 := (fun x v => Host.reduce IntOp.andi x v reducesTo_S512x2048x3_S_d0_1_2 h_S_) main_v1 main_c_0
  let main_c_1 : IVec S_ 32 := constantI S_ 32 3#32
  let main_v3 : IVec S512x2048x3 32 := broadcastInDim S512x2048x3 ![] bcast_S_S512x2048x3 main_c_1
  let main_v4 : IVec S512x2048x3 1 := cmpi .sle main_arg0 main_v3
  let main_c_2 : IVec S_ 1 := constantI S_ 1 1#1
  let main_v5 : IVec S_ 1 := (fun x v => Host.reduce IntOp.andi x v reducesTo_S512x2048x3_S_d0_1_2 h_S_) main_v4 main_c_2
  let main_v6 : IVec S_ 1 := andi main_v2 main_v5
  let main_c_3 : IVec S_ 32 := constantI S_ 32 0#32
  let main_v7 : IVec S512 32 := broadcastInDim S512 ![] bcast_S_S512 main_c_3
  let main_v8 : IVec S512 1 := cmpi .sge main_arg1 main_v7
  let main_c_4 : IVec S_ 1 := constantI S_ 1 1#1
  let main_v9 : IVec S_ 1 := (fun x v => Host.reduce IntOp.andi x v reducesTo_S512_S_d0 h_S_) main_v8 main_c_4
  let main_v10 : IVec S_ 1 := andi main_v6 main_v9
  let main_c_5 : IVec S_ 32 := constantI S_ 32 28#32
  let main_v11 : IVec S512 32 := broadcastInDim S512 ![] bcast_S_S512 main_c_5
  let main_v12 : IVec S512 1 := cmpi .sle main_arg1 main_v11
  let main_c_6 : IVec S_ 1 := constantI S_ 1 1#1
  let main_v13 : IVec S_ 1 := (fun x v => Host.reduce IntOp.andi x v reducesTo_S512_S_d0 h_S_) main_v12 main_c_6
  let main_v14 : IVec S_ 1 := andi main_v10 main_v13
  main_v14
-- ==== Kernel.lean ====
abbrev S512x2048x3 : Shape := ⟨3, ![512, 2048, 3]⟩
abbrev S512 : Shape := ⟨1, ![512]⟩
abbrev S29x16 : Shape := ⟨2, ![29, 16]⟩
abbrev S5x16 : Shape := ⟨2, ![5, 16]⟩
abbrev S4x16 : Shape := ⟨2, ![4, 16]⟩
abbrev S8x16 : Shape := ⟨2, ![8, 16]⟩
abbrev S6160x128 : Shape := ⟨2, ![6160, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S512x2048x1 : Shape := ⟨3, ![512, 2048, 1]⟩
abbrev S512x2048 : Shape := ⟨2, ![512, 2048]⟩
abbrev S_ : Shape := ⟨0, ![]⟩
abbrev S512x128x16 : Shape := ⟨3, ![512, 128, 16]⟩
abbrev S16x512x128 : Shape := ⟨3, ![16, 512, 128]⟩
abbrev S512x1 : Shape := ⟨2, ![512, 1]⟩
abbrev S16x128 : Shape := ⟨2, ![16, 128]⟩
abbrev S6144x128 : Shape := ⟨2, ![6144, 128]⟩
abbrev S128x3x16x128 : Shape := ⟨4, ![128, 3, 16, 128]⟩
abbrev S3x16x128x128 : Shape := ⟨4, ![3, 16, 128, 128]⟩
abbrev S1x128 : Shape := ⟨2, ![1, 128]⟩
abbrev S1x64 : Shape := ⟨2, ![1, 64]⟩
abbrev S1x1 : Shape := ⟨2, ![1, 1]⟩
abbrev S512x29 : Shape := ⟨2, ![512, 29]⟩
abbrev S29 : Shape := ⟨1, ![29]⟩
abbrev S29x1 : Shape := ⟨2, ![29, 1]⟩
abbrev S512x16 : Shape := ⟨2, ![512, 16]⟩
abbrev S512x128 : Shape := ⟨2, ![512, 128]⟩
abbrev S5 : Shape := ⟨1, ![5]⟩
abbrev S5x1 : Shape := ⟨2, ![5, 1]⟩
abbrev S4 : Shape := ⟨1, ![4]⟩
abbrev S4x1 : Shape := ⟨2, ![4, 1]⟩
abbrev S8 : Shape := ⟨1, ![8]⟩
abbrev S8x1 : Shape := ⟨2, ![8, 1]⟩
abbrev S512x6160 : Shape := ⟨2, ![512, 6160]⟩
abbrev S512x64 : Shape := ⟨2, ![512, 64]⟩

abbrev nBuf : Space → Nat
  | .hbm => 40
  | .vmem => 13
  | .smem => 0
  | _ => 0

abbrev bufTy : (tb : Table) → Fin (tcTables nBuf tb) → BufTy
  | .hbm, ⟨0, _⟩ => ⟨S512x2048x3, .i32⟩
  | .hbm, ⟨1, _⟩ => ⟨S512, .i32⟩
  | .hbm, ⟨2, _⟩ => ⟨S29x16, .f32⟩
  | .hbm, ⟨3, _⟩ => ⟨S5x16, .f32⟩
  | .hbm, ⟨4, _⟩ => ⟨S4x16, .f32⟩
  | .hbm, ⟨5, _⟩ => ⟨S8x16, .f32⟩
  | .hbm, ⟨6, _⟩ => ⟨S6160x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S512x2048x1, .i32⟩
  | .hbm, ⟨13, _⟩ => ⟨S512x2048, .i32⟩
  | .hbm, ⟨14, _⟩ => ⟨S512x2048x1, .i32⟩
  | .hbm, ⟨15, _⟩ => ⟨S512x2048, .i32⟩
  | .hbm, ⟨16, _⟩ => ⟨S_, .i32⟩
  | .hbm, ⟨17, _⟩ => ⟨S512x2048, .i32⟩
  | .hbm, ⟨18, _⟩ => ⟨S512x2048, .i32⟩
  | .hbm, ⟨19, _⟩ => ⟨S512x2048, .i32⟩
  | .hbm, ⟨20, _⟩ => ⟨S512x2048x1, .i32⟩
  | .hbm, ⟨21, _⟩ => ⟨S512x2048, .i32⟩
  | .hbm, ⟨22, _⟩ => ⟨S_, .i32⟩
  | .hbm, ⟨23, _⟩ => ⟨S512x2048, .i32⟩
  | .hbm, ⟨24, _⟩ => ⟨S512x2048, .i32⟩
  | .hbm, ⟨25, _⟩ => ⟨S512x2048, .i32⟩
  | .hbm, ⟨26, _⟩ => ⟨S512x2048, .i8⟩
  | .hbm, ⟨27, _⟩ => ⟨S512x128x16, .i8⟩
  | .hbm, ⟨28, _⟩ => ⟨S16x512x128, .i8⟩
  | .hbm, ⟨29, _⟩ => ⟨S512x1, .i32⟩
  | .hbm, ⟨30, _⟩ => ⟨S16x128, .f32⟩
  | .hbm, ⟨31, _⟩ => ⟨S6144x128, .f32⟩
  | .hbm, ⟨32, _⟩ => ⟨S128x3x16x128, .f32⟩
  | .hbm, ⟨33, _⟩ => ⟨S3x16x128x128, .f32⟩
  | .hbm, ⟨34, _⟩ => ⟨S6144x128, .f32⟩
  | .hbm, ⟨35, _⟩ => ⟨S6160x128, .f32⟩
  | .hbm, ⟨36, _⟩ => ⟨S1x128, .f32⟩
  | .hbm, ⟨37, _⟩ => ⟨S1x64, .f32⟩
  | .hbm, ⟨38, _⟩ => ⟨S1x1, .f32⟩
  | .hbm, ⟨39, _⟩ => ⟨S512x1, .f32⟩
  | .local _ .vmem, ⟨0, _⟩ => ⟨S16x512x128, .i8⟩
  | .local _ .vmem, ⟨1, _⟩ => ⟨S512x1, .i32⟩
  | .local _ .vmem, ⟨2, _⟩ => ⟨S29x16, .f32⟩
  | .local _ .vmem, ⟨3, _⟩ => ⟨S5x16, .f32⟩
  | .local _ .vmem, ⟨4, _⟩ => ⟨S4x16, .f32⟩
  | .local _ .vmem, ⟨5, _⟩ => ⟨S8x16, .f32⟩
  | .local _ .vmem, ⟨6, _⟩ => ⟨S6160x128, .f32⟩
  | .local _ .vmem, ⟨7, _⟩ => ⟨S128x64, .f32⟩
  | .local _ .vmem, ⟨8, _⟩ => ⟨S64x1, .f32⟩
  | .local _ .vmem, ⟨9, _⟩ => ⟨S1x128, .f32⟩
  | .local _ .vmem, ⟨10, _⟩ => ⟨S1x64, .f32⟩
  | .local _ .vmem, ⟨11, _⟩ => ⟨S1x1, .f32⟩
  | .local _ .vmem, ⟨12, _⟩ => ⟨S512x1, .f32⟩
  | _, _ => ⟨S512x2048x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S29x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== ReferenceIdeal.lean ====
abbrev S512x2048x3 : Shape := ⟨3, ![512, 2048, 3]⟩
abbrev S512 : Shape := ⟨1, ![512]⟩
abbrev S29x16 : Shape := ⟨2, ![29, 16]⟩
abbrev S5x16 : Shape := ⟨2, ![5, 16]⟩
abbrev S4x16 : Shape := ⟨2, ![4, 16]⟩
abbrev S8x16 : Shape := ⟨2, ![8, 16]⟩
abbrev S6160x128 : Shape := ⟨2, ![6160, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S512x3x2048 : Shape := ⟨3, ![512, 3, 2048]⟩
abbrev S_ : Shape := ⟨0, ![]⟩
abbrev S29 : Shape := ⟨1, ![29]⟩
abbrev S29x1 : Shape := ⟨2, ![29, 1]⟩
abbrev S512x1 : Shape := ⟨2, ![512, 1]⟩
abbrev S1x1 : Shape := ⟨2, ![1, 1]⟩
abbrev S512x16 : Shape := ⟨2, ![512, 16]⟩
abbrev S5 : Shape := ⟨1, ![5]⟩
abbrev S5x1 : Shape := ⟨2, ![5, 1]⟩
abbrev S512x1x2048 : Shape := ⟨3, ![512, 1, 2048]⟩
abbrev S512x2048 : Shape := ⟨2, ![512, 2048]⟩
abbrev S512x2048x1 : Shape := ⟨3, ![512, 2048, 1]⟩
abbrev S1x1x1 : Shape := ⟨3, ![1, 1, 1]⟩
abbrev S512x2048x16 : Shape := ⟨3, ![512, 2048, 16]⟩
abbrev S4 : Shape := ⟨1, ![4]⟩
abbrev S4x1 : Shape := ⟨2, ![4, 1]⟩
abbrev S8 : Shape := ⟨1, ![8]⟩
abbrev S8x1 : Shape := ⟨2, ![8, 1]⟩
abbrev S512x16x2048 : Shape := ⟨3, ![512, 16, 2048]⟩
abbrev S512x16x128x16 : Shape := ⟨4, ![512, 16, 128, 16]⟩
abbrev S512x16x128 : Shape := ⟨3, ![512, 16, 128]⟩
abbrev S512x128x16 : Shape := ⟨3, ![512, 128, 16]⟩
abbrev S512x128x48 : Shape := ⟨3, ![512, 128, 48]⟩
abbrev S512x6144 : Shape := ⟨2, ![512, 6144]⟩
abbrev S512x6160 : Shape := ⟨2, ![512, 6160]⟩
abbrev S512x128 : Shape := ⟨2, ![512, 128]⟩
abbrev S1x128 : Shape := ⟨2, ![1, 128]⟩
abbrev S512x64 : Shape := ⟨2, ![512, 64]⟩
abbrev S1x64 : Shape := ⟨2, ![1, 64]⟩

abbrev nBuf : Space → Nat
  | .hbm => 220
  | .vmem => 0
  | .smem => 0
  | _ => 0

abbrev hbmTy0_0 (i : Nat) : BufTy := match i % 128 with
  | 0 => ⟨S512x2048x3, .i32⟩
  | 1 => ⟨S512, .i32⟩
  | 2 => ⟨S29x16, .f32⟩
  | 3 => ⟨S5x16, .f32⟩
  | 4 => ⟨S4x16, .f32⟩
  | 5 => ⟨S8x16, .f32⟩
  | 6 => ⟨S6160x128, .f32⟩
  | 7 => ⟨S128, .f32⟩
  | 8 => ⟨S128x64, .f32⟩
  | 9 => ⟨S64, .f32⟩
  | 10 => ⟨S64x1, .f32⟩
  | 11 => ⟨S1, .f32⟩
  | 12 => ⟨S512x3x2048, .i32⟩
  | 13 => ⟨S29x16, .f32⟩
  | 14 => ⟨S_, .f32⟩
  | 15 => ⟨S29, .f32⟩
  | 16 => ⟨S29x1, .f32⟩
  | 17 => ⟨S29x1, .f32⟩
  | 18 => ⟨S_, .f32⟩
  | 19 => ⟨S29x1, .f32⟩
  | 20 => ⟨S29x1, .f32⟩
  | 21 => ⟨S_, .f32⟩
  | 22 => ⟨S29x1, .f32⟩
  | 23 => ⟨S29x1, .f32⟩
  | 24 => ⟨S_, .f32⟩
  | 25 => ⟨S29x1, .f32⟩
  | 26 => ⟨S29x1, .f32⟩
  | 27 => ⟨S29x16, .f32⟩
  | 28 => ⟨S29x16, .f32⟩
  | 29 => ⟨S_, .i32⟩
  | 30 => ⟨S512, .i32⟩
  | 31 => ⟨S512, .i1⟩
  | 32 => ⟨S_, .i32⟩
  | 33 => ⟨S512, .i32⟩
  | 34 => ⟨S512, .i32⟩
  | 35 => ⟨S512, .i32⟩
  | 36 => ⟨S512x1, .i32⟩
  | 37 => ⟨S1, .i32⟩
  | 38 => ⟨S_, .i32⟩
  | 39 => ⟨S512x1, .i32⟩
  | 40 => ⟨S512x1, .i1⟩
  | 41 => ⟨S1x1, .i32⟩
  | 42 => ⟨S512x1, .i32⟩
  | 43 => ⟨S512x1, .i1⟩
  | 44 => ⟨S512x1, .i1⟩
  | 45 => ⟨S_, .i1⟩
  | 46 => ⟨S512, .i1⟩
  | 47 => ⟨S512x16, .f32⟩
  | 48 => ⟨S512x16, .i1⟩
  | 49 => ⟨S_, .f32⟩
  | 50 => ⟨S512x16, .f32⟩
  | 51 => ⟨S512x16, .f32⟩
  | 52 => ⟨S5x16, .f32⟩
  | 53 => ⟨S_, .f32⟩
  | 54 => ⟨S5, .f32⟩
  | 55 => ⟨S5x1, .f32⟩
  | 56 => ⟨S5x1, .f32⟩
  | 57 => ⟨S_, .f32⟩
  | 58 => ⟨S5x1, .f32⟩
  | 59 => ⟨S5x1, .f32⟩
  | 60 => ⟨S_, .f32⟩
  | 61 => ⟨S5x1, .f32⟩
  | 62 => ⟨S5x1, .f32⟩
  | 63 => ⟨S_, .f32⟩
  | 64 => ⟨S5x1, .f32⟩
  | 65 => ⟨S5x1, .f32⟩
  | 66 => ⟨S5x16, .f32⟩
  | 67 => ⟨S5x16, .f32⟩
  | 68 => ⟨S512x1x2048, .i32⟩
  | 69 => ⟨S512x2048, .i32⟩
  | 70 => ⟨S_, .i32⟩
  | 71 => ⟨S512x2048, .i32⟩
  | 72 => ⟨S512x2048, .i1⟩
  | 73 => ⟨S_, .i32⟩
  | 74 => ⟨S512x2048, .i32⟩
  | 75 => ⟨S512x2048, .i32⟩
  | 76 => ⟨S512x2048, .i32⟩
  | 77 => ⟨S512x2048x1, .i32⟩
  | 78 => ⟨S1, .i32⟩
  | 79 => ⟨S_, .i32⟩
  | 80 => ⟨S512x2048x1, .i32⟩
  | 81 => ⟨S512x2048x1, .i1⟩
  | 82 => ⟨S1x1x1, .i32⟩
  | 83 => ⟨S512x2048x1, .i32⟩
  | 84 => ⟨S512x2048x1, .i1⟩
  | 85 => ⟨S512x2048x1, .i1⟩
  | 86 => ⟨S_, .i1⟩
  | 87 => ⟨S512x2048, .i1⟩
  | 88 => ⟨S512x2048x16, .f32⟩
  | 89 => ⟨S512x2048x16, .i1⟩
  | 90 => ⟨S_, .f32⟩
  | 91 => ⟨S512x2048x16, .f32⟩
  | 92 => ⟨S512x2048x16, .f32⟩
  | 93 => ⟨S4x16, .f32⟩
  | 94 => ⟨S_, .f32⟩
  | 95 => ⟨S4, .f32⟩
  | 96 => ⟨S4x1, .f32⟩
  | 97 => ⟨S4x1, .f32⟩
  | 98 => ⟨S_, .f32⟩
  | 99 => ⟨S4x1, .f32⟩
  | 100 => ⟨S4x1, .f32⟩
  | 101 => ⟨S_, .f32⟩
  | 102 => ⟨S4x1, .f32⟩
  | 103 => ⟨S4x1, .f32⟩
  | 104 => ⟨S_, .f32⟩
  | 105 => ⟨S4x1, .f32⟩
  | 106 => ⟨S4x1, .f32⟩
  | 107 => ⟨S4x16, .f32⟩
  | 108 => ⟨S4x16, .f32⟩
  | 109 => ⟨S512x1x2048, .i32⟩
  | 110 => ⟨S512x2048, .i32⟩
  | 111 => ⟨S_, .i32⟩
  | 112 => ⟨S512x2048, .i32⟩
  | 113 => ⟨S512x2048, .i1⟩
  | 114 => ⟨S_, .i32⟩
  | 115 => ⟨S512x2048, .i32⟩
  | 116 => ⟨S512x2048, .i32⟩
  | 117 => ⟨S512x2048, .i32⟩
  | 118 => ⟨S512x2048x1, .i32⟩
  | 119 => ⟨S1, .i32⟩
  | 120 => ⟨S_, .i32⟩
  | 121 => ⟨S512x2048x1, .i32⟩
  | 122 => ⟨S512x2048x1, .i1⟩
  | 123 => ⟨S1x1x1, .i32⟩
  | 124 => ⟨S512x2048x1, .i32⟩
  | 125 => ⟨S512x2048x1, .i1⟩
  | 126 => ⟨S512x2048x1, .i1⟩
  | 127 => ⟨S_, .i1⟩
  | _ => ⟨S512x2048x3, .i32⟩

abbrev hbmTy0_1 (i : Nat) : BufTy := match i % 128 with
  | 0 => ⟨S512x2048, .i1⟩
  | 1 => ⟨S512x2048x16, .f32⟩
  | 2 => ⟨S512x2048x16, .i1⟩
  | 3 => ⟨S_, .f32⟩
  | 4 => ⟨S512x2048x16, .f32⟩
  | 5 => ⟨S512x2048x16, .f32⟩
  | 6 => ⟨S8x16, .f32⟩
  | 7 => ⟨S_, .f32⟩
  | 8 => ⟨S8, .f32⟩
  | 9 => ⟨S8x1, .f32⟩
  | 10 => ⟨S8x1, .f32⟩
  | 11 => ⟨S_, .f32⟩
  | 12 => ⟨S8x1, .f32⟩
  | 13 => ⟨S8x1, .f32⟩
  | 14 => ⟨S_, .f32⟩
  | 15 => ⟨S8x1, .f32⟩
  | 16 => ⟨S8x1, .f32⟩
  | 17 => ⟨S_, .f32⟩
  | 18 => ⟨S8x1, .f32⟩
  | 19 => ⟨S8x1, .f32⟩
  | 20 => ⟨S8x16, .f32⟩
  | 21 => ⟨S8x16, .f32⟩
  | 22 => ⟨S512x1x2048, .i32⟩
  | 23 => ⟨S512x2048, .i32⟩
  | 24 => ⟨S_, .i32⟩
  | 25 => ⟨S512x2048, .i32⟩
  | 26 => ⟨S512x2048, .i1⟩
  | 27 => ⟨S_, .i32⟩
  | 28 => ⟨S512x2048, .i32⟩
  | 29 => ⟨S512x2048, .i32⟩
  | 30 => ⟨S512x2048, .i32⟩
  | 31 => ⟨S512x2048x1, .i32⟩
  | 32 => ⟨S1, .i32⟩
  | 33 => ⟨S_, .i32⟩
  | 34 => ⟨S512x2048x1, .i32⟩
  | 35 => ⟨S512x2048x1, .i1⟩
  | 36 => ⟨S1x1x1, .i32⟩
  | 37 => ⟨S512x2048x1, .i32⟩
  | 38 => ⟨S512x2048x1, .i1⟩
  | 39 => ⟨S512x2048x1, .i1⟩
  | 40 => ⟨S_, .i1⟩
  | 41 => ⟨S512x2048, .i1⟩
  | 42 => ⟨S512x2048x16, .f32⟩
  | 43 => ⟨S512x2048x16, .i1⟩
  | 44 => ⟨S_, .f32⟩
  | 45 => ⟨S512x2048x16, .f32⟩
  | 46 => ⟨S512x2048x16, .f32⟩
  | 47 => ⟨S512x16x2048, .f32⟩
  | 48 => ⟨S512x16x128x16, .f32⟩
  | 49 => ⟨S_, .f32⟩
  | 50 => ⟨S512x16x128, .f32⟩
  | 51 => ⟨S_, .f32⟩
  | 52 => ⟨S512x16x128, .f32⟩
  | 53 => ⟨S512x16x128, .f32⟩
  | 54 => ⟨S512x128x16, .f32⟩
  | 55 => ⟨S512x16x2048, .f32⟩
  | 56 => ⟨S512x16x128x16, .f32⟩
  | 57 => ⟨S_, .f32⟩
  | 58 => ⟨S512x16x128, .f32⟩
  | 59 => ⟨S_, .f32⟩
  | 60 => ⟨S512x16x128, .f32⟩
  | 61 => ⟨S512x16x128, .f32⟩
  | 62 => ⟨S512x128x16, .f32⟩
  | 63 => ⟨S512x16x2048, .f32⟩
  | 64 => ⟨S512x16x128x16, .f32⟩
  | 65 => ⟨S_, .f32⟩
  | 66 => ⟨S512x16x128, .f32⟩
  | 67 => ⟨S_, .f32⟩
  | 68 => ⟨S512x16x128, .f32⟩
  | 69 => ⟨S512x16x128, .f32⟩
  | 70 => ⟨S512x128x16, .f32⟩
  | 71 => ⟨S512x128x48, .f32⟩
  | 72 => ⟨S512x6144, .f32⟩
  | 73 => ⟨S512x6160, .f32⟩
  | 74 => ⟨S512x128, .f32⟩
  | 75 => ⟨S1x128, .f32⟩
  | 76 => ⟨S512x128, .f32⟩
  | 77 => ⟨S512x128, .f32⟩
  | 78 => ⟨S_, .f32⟩
  | 79 => ⟨S512x128, .f32⟩
  | 80 => ⟨S512x128, .f32⟩
  | 81 => ⟨S512x64, .f32⟩
  | 82 => ⟨S1x64, .f32⟩
  | 83 => ⟨S512x64, .f32⟩
  | 84 => ⟨S512x64, .f32⟩
  | 85 => ⟨S_, .f32⟩
  | 86 => ⟨S512x64, .f32⟩
  | 87 => ⟨S512x64, .f32⟩
  | 88 => ⟨S512x1, .f32⟩
  | 89 => ⟨S1x1, .f32⟩
  | 90 => ⟨S512x1, .f32⟩
  | 91 => ⟨S512x1, .f32⟩
  | _ => ⟨S512x2048x3, .i32⟩

abbrev hbmTy (i : Nat) : BufTy := match i / 128 with
  | 0 => hbmTy0_0 i
  | 1 => hbmTy0_1 i
  | _ => ⟨S512x2048x3, .i32⟩

abbrev bufTy : (tb : Table) → Fin (tcTables nBuf tb) → BufTy
  | .hbm, ⟨i, _⟩ => hbmTy i
  | _, _ => ⟨S512x2048x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v10 : Ref sig .tc := ⟨.hbm, 51, rfl⟩
abbrev main_call2_v0 : Ref sig .tc := ⟨.hbm, 52, rfl⟩
abbrev main_call2_cst : Ref sig .tc := ⟨.hbm, 53, rfl⟩
abbrev main_call2_v1 : Ref sig .tc := ⟨.hbm, 54, rfl⟩
abbrev main_call2_v2 : Ref sig .tc := ⟨.hbm, 55, rfl⟩
abbrev main_v11 : Ref sig .tc := ⟨.hbm, 56, rfl⟩
abbrev main_cst_2 : Ref sig .tc := ⟨.hbm, 57, rfl⟩
abbrev main_v12 : Ref sig .tc := ⟨.hbm, 58, rfl⟩
abbrev main_v13 : Ref sig .tc := ⟨.hbm, 59, rfl⟩
abbrev main_cst_3 : Ref sig .tc := ⟨.hbm, 60, rfl⟩
abbrev main_v14 : Ref sig .tc := ⟨.hbm, 61, rfl⟩
abbrev main_v15 : Ref sig .tc := ⟨.hbm, 62, rfl⟩
abbrev main_cst_4 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_call3_cst : Ref sig .tc := ⟨.hbm, 90, rfl⟩
abbrev main_call3_v15 : Ref sig .tc := ⟨.hbm, 91, rfl⟩
abbrev main_v22 : Ref sig .tc := ⟨.hbm, 92, rfl⟩
abbrev main_call4_v0 : Ref sig .tc := ⟨.hbm, 93, rfl⟩
abbrev main_call4_cst : Ref sig .tc := ⟨.hbm, 94, rfl⟩
abbrev main_call4_v1 : Ref sig .tc := ⟨.hbm, 95, rfl⟩
abbrev main_call4_v2 : Ref sig .tc := ⟨.hbm, 96, rfl⟩
abbrev main_v23 : Ref sig .tc := ⟨.hbm, 97, rfl⟩
abbrev main_cst_5 : Ref sig .tc := ⟨.hbm, 98, rfl⟩
abbrev main_v24 : Ref sig .tc := ⟨.hbm, 99, rfl⟩
abbrev main_v25 : Ref sig .tc := ⟨.hbm, 100, rfl⟩
abbrev main_cst_6 : Ref sig .tc := ⟨.hbm, 101, rfl⟩
abbrev main_v26 : Ref sig .tc := ⟨.hbm, 102, rfl⟩
abbrev main_v27 : Ref sig .tc := ⟨.hbm, 103, rfl⟩
abbrev main_cst_7 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_call5_c : Ref sig .tc := ⟨.hbm, 111, rfl⟩
abbrev main_call5_v0 : Ref sig .tc := ⟨.hbm, 112, rfl⟩
abbrev main_call5_v1 : Ref sig .tc := ⟨.hbm, 113, rfl⟩
abbrev main_call5_c_0 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_call5_v5 : Ref sig .tc := ⟨.hbm, 118, rfl⟩
abbrev main_call5_c_1 : Ref sig .tc := ⟨.hbm, 119, rfl⟩
abbrev main_call5_c_2 : Ref sig .tc := ⟨.hbm, 120, rfl⟩
abbrev main_call5_v6 : Ref sig .tc := ⟨.hbm, 121, rfl⟩
abbrev main_call5_v7 : Ref sig .tc := ⟨.hbm, 122, rfl⟩
abbrev main_call5_v8 : Ref sig .tc := ⟨.hbm, 123, rfl⟩
abbrev main_call5_v9 : Ref sig .tc := ⟨.hbm, 124, rfl⟩
abbrev main_call5_v10 : Ref sig .tc := ⟨.hbm, 125, rfl⟩
abbrev main_call5_v11 : Ref sig .tc := ⟨.hbm, 126, rfl⟩
abbrev main_call5_c_3 : Ref sig .tc := ⟨.hbm, 127, rfl⟩
abbrev main_call5_v12 : Ref sig .tc := ⟨.hbm, 128, rfl⟩
abbrev main_call5_v13 : Ref sig .tc := ⟨.hbm, 129, rfl⟩
abbrev main_call5_v14 : Ref sig .tc := ⟨.hbm, 130, rfl⟩
abbrev main_call5_cst : Ref sig .tc := ⟨.hbm, 131, rfl⟩
abbrev main_call5_v15 : Ref sig .tc := ⟨.hbm, 132, rfl⟩
abbrev main_v34 : Ref sig .tc := ⟨.hbm, 133, rfl⟩
abbrev main_call6_v0 : Ref sig .tc := ⟨.hbm, 134, rfl⟩
abbrev main_call6_cst : Ref sig .tc := ⟨.hbm, 135, rfl⟩
abbrev main_call6_v1 : Ref sig .tc := ⟨.hbm, 136, rfl⟩
abbrev main_call6_v2 : Ref sig .tc := ⟨.hbm, 137, rfl⟩
abbrev main_v35 : Ref sig .tc := ⟨.hbm, 138, rfl⟩
abbrev main_cst_8 : Ref sig .tc := ⟨.hbm, 139, rfl⟩
abbrev main_v36 : Ref sig .tc := ⟨.hbm, 140, rfl⟩
abbrev main_v37 : Ref sig .tc := ⟨.hbm, 141, rfl⟩
abbrev main_cst_9 : Ref sig .tc := ⟨.hbm, 142, rfl⟩
abbrev main_v38 : Ref sig .tc := ⟨.hbm, 143, rfl⟩
abbrev main_v39 : Ref sig .tc := ⟨.hbm, 144, rfl⟩
abbrev main_cst_10 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_call7_c : Ref sig .tc := ⟨.hbm, 152, rfl⟩
abbrev main_call7_v0 : Ref sig .tc := ⟨.hbm, 153, rfl⟩
abbrev main_call7_v1 : Ref sig .tc := ⟨.hbm, 154, rfl⟩
abbrev main_call7_c_0 : Ref sig .tc := ⟨.hbm, 155, rfl⟩
abbrev main_call7_v2 : Ref sig .tc := ⟨.hbm, 156, rfl⟩
abbrev main_call7_v3 : Ref sig .tc := ⟨.hbm, 157, rfl⟩
abbrev main_call7_v4 : Ref sig .tc := ⟨.hbm, 158, rfl⟩
abbrev main_call7_v5 : Ref sig .tc := ⟨.hbm, 159, rfl⟩
abbrev main_call7_c_1 : Ref sig .tc := ⟨.hbm, 160, rfl⟩
abbrev main_call7_c_2 : Ref sig .tc := ⟨.hbm, 161, rfl⟩
abbrev main_call7_v6 : Ref sig .tc := ⟨.hbm, 162, rfl⟩
abbrev main_call7_v7 : Ref sig .tc := ⟨.hbm, 163, rfl⟩
abbrev main_call7_v8 : Ref sig .tc := ⟨.hbm, 164, rfl⟩
abbrev main_call7_v9 : Ref sig .tc := ⟨.hbm, 165, rfl⟩
abbrev main_call7_v10 : Ref sig .tc := ⟨.hbm, 166, rfl⟩
abbrev main_call7_v11 : Ref sig .tc := ⟨.hbm, 167, rfl⟩
abbrev main_call7_c_3 : Ref sig .tc := ⟨.hbm, 168, rfl⟩
abbrev main_call7_v12 : Ref sig .tc := ⟨.hbm, 169, rfl⟩
abbrev main_call7_v13 : Ref sig .tc := ⟨.hbm, 170, rfl⟩
abbrev main_call7_v14 : Ref sig .tc := ⟨.hbm, 171, rfl⟩
abbrev main_call7_cst : Ref sig .tc := ⟨.hbm, 172, rfl⟩
abbrev main_call7_v15 : Ref sig .tc := ⟨.hbm, 173, rfl⟩
abbrev main_v46 : Ref sig .tc := ⟨.hbm, 174, rfl⟩
abbrev main_v47 : Ref sig .tc := ⟨.hbm, 175, rfl⟩
abbrev main_v48 : Ref sig .tc := ⟨.hbm, 176, rfl⟩
abbrev main_cst_11 : Ref sig .tc := ⟨.hbm, 177, rfl⟩
abbrev main_v49 : Ref sig .tc := ⟨.hbm, 178, rfl⟩
abbrev main_cst_12 : Ref sig .tc := ⟨.hbm, 179, rfl⟩
abbrev main_v50 : Ref sig .tc := ⟨.hbm, 180, rfl⟩
abbrev main_v51 : Ref sig .tc := ⟨.hbm, 181, rfl⟩
abbrev main_v52 : Ref sig .tc := ⟨.hbm, 182, rfl⟩
abbrev main_v53 : Ref sig .tc := ⟨.hbm, 183, rfl⟩
abbrev main_v54 : Ref sig .tc := ⟨.hbm, 184, rfl⟩
abbrev main_cst_13 : Ref sig .tc := ⟨.hbm, 185, rfl⟩
abbrev main_v55 : Ref sig .tc := ⟨.hbm, 186, rfl⟩
abbrev main_cst_14 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_v59 : Ref sig .tc := ⟨.hbm, 191, rfl⟩
abbrev main_v60 : Ref sig .tc := ⟨.hbm, 192, rfl⟩
abbrev main_cst_15 : Ref sig .tc := ⟨.hbm, 193, rfl⟩
abbrev main_v61 : Ref sig .tc := ⟨.hbm, 194, rfl⟩
abbrev main_cst_16 : Ref sig .tc := ⟨.hbm, 195, rfl⟩
abbrev main_v62 : Ref sig .tc := ⟨.hbm, 196, rfl⟩
abbrev main_v63 : Ref sig .tc := ⟨.hbm, 197, rfl⟩
abbrev main_v64 : Ref sig .tc := ⟨.hbm, 198, rfl⟩
abbrev main_v65 : Ref sig .tc := ⟨.hbm, 199, rfl⟩
abbrev main_v66 : Ref sig .tc := ⟨.hbm, 200, rfl⟩
abbrev main_v67 : Ref sig .tc := ⟨.hbm, 201, rfl⟩
abbrev main_v68 : Ref sig .tc := ⟨.hbm, 202, rfl⟩
abbrev main_v69 : Ref sig .tc := ⟨.hbm, 203, rfl⟩
abbrev main_v70 : Ref sig .tc := ⟨.hbm, 204, rfl⟩
abbrev main_v71 : Ref sig .tc := ⟨.hbm, 205, rfl⟩
abbrev main_cst_17 : Ref sig .tc := ⟨.hbm, 206, rfl⟩
abbrev main_v72 : Ref sig .tc := ⟨.hbm, 207, rfl⟩
abbrev main_v73 : Ref sig .tc := ⟨.hbm, 208, rfl⟩
abbrev main_v74 : Ref sig .tc := ⟨.hbm, 209, rfl⟩
abbrev main_v75 : Ref sig .tc := ⟨.hbm, 210, rfl⟩
abbrev main_v76 : Ref sig .tc := ⟨.hbm, 211, rfl⟩
abbrev main_v77 : Ref sig .tc := ⟨.hbm, 212, rfl⟩
abbrev main_cst_18 : Ref sig .tc := ⟨.hbm, 213, rfl⟩
abbrev main_v78 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_v82 : Ref sig .tc := ⟨.hbm, 218, rfl⟩
abbrev main_v83 : Ref sig .tc := ⟨.hbm, 219, rfl⟩

abbrev nD : Nat := 1
abbrev τ : Topo := Topo.v7x

variable {F : FTy → Type} [FloatOps F]
-- ==== Proof.Columns.lean ====
module

public import proofs.«01_k».proof.Proof.Gen.KernelIdeal.Frame
public import Idealize.ShloMosaic.Lib.Pointwise

@[expose] public section

set_option maxRecDepth 16384

noncomputable section

namespace Cert.KernelIdeal.Columns

open Idealize.ShloMosaic Idealize.SL.Sem
open Cert.KernelIdeal Cert.KernelIdeal.Gen

variable {F : FTy → Type} [FloatOps F]

/-- A one-element window lies inside a table of at least four rows and sixteen columns. -/
theorem slices_cell {n : Nat} (hn : 4 ≤ n) (v : Fin 4) (d : Fin 16) :
    (⟨2, ![n, 16]⟩ : Shape).Slices ![v.val, d.val] S1x1 :=
  ⟨rfl, fun a => match a with
    | ⟨0, _⟩ => by show v.val + 1 ≤ n; omega
    | ⟨1, _⟩ => by show d.val + 1 ≤ 16; omega⟩

/-- The entry of a table at row `v` and column `d`, as a one-element array. -/
def cell {n : Nat} (hn : 4 ≤ n) (T : FVec F ⟨2, ![n, 16]⟩ .f32) (v : Fin 4) (d : Fin 16) : FVec F S1x1 .f32 :=
  extractStridedSlice S1x1 ![v.val, d.val] T (slices_cell hn v d)

/-- One column of pooled features: four count arrays, each times one entry of the table's column `d`, added up. -/
def column {n : Nat} (hn : 4 ≤ n) (c1 c2 c3 c0 : FVec F S512x128 .f32) (T : FVec F ⟨2, ![n, 16]⟩ .f32) (d : Fin 16) :
    FVec F S512x128 .f32 :=
  addf (addf (addf (mulf c0 (broadcastTo S512x128 (cell hn T 0 d) broadcasts_S1x1_S512x128))
    (mulf c1 (broadcastTo S512x128 (cell hn T 1 d) broadcasts_S1x1_S512x128)))
    (mulf c2 (broadcastTo S512x128 (cell hn T 2 d) broadcasts_S1x1_S512x128)))
    (mulf c3 (broadcastTo S512x128 (cell hn T 3 d) broadcasts_S1x1_S512x128))

/-- The sixteen columns of one table, as pieces of a concatenation. -/
def pieces {n : Nat} (hn : 4 ≤ n) (c1 c2 c3 c0 : FVec F S512x128 .f32) (T : FVec F ⟨2, ![n, 16]⟩ .f32) :
    List ((s : Shape) × (s.Idx → F .f32)) :=
  List.ofFn fun d : Fin 16 => ⟨S512x128, column hn c1 c2 c3 c0 T d⟩

section
variable (x0 : Vec F S16x512x128 .i8) (x1 : Vec F S512x1 .i32) (x2 : Vec F S29x16 .f32) (x3 : Vec F S5x16 .f32) (x4 : Vec F S4x16 .f32)
  (x5 : Vec F S8x16 .f32)

/-- All pieces that the body concatenates: the tissue features, then the columns of the three tables. -/
def parts : List ((s : Shape) × (s.Idx → F .f32)) :=
  ⟨S512x16, k0_pay2 x1 x2⟩ ::
    (pieces (by decide) (k0_pay5 x0) (k0_pay6 x0) (k0_pay9 (k0_pay8 x0)) (k0_pay10 (k0_pay7 x0) (k0_pay8 x0)) (k0_pay22 x3)
      ++ pieces (by decide) (k0_pay12 (F := F) (k0_pay3 x0)) (k0_pay13 (F := F) (k0_pay3 x0)) (k0_pay14 (F := F) (k0_pay3 x0))
          (k0_pay15 (F := F) (k0_pay3 x0)) (k0_pay47 x4)
      ++ pieces (by decide) (k0_pay17 (F := F) (k0_pay3 x0)) (k0_pay18 (F := F) (k0_pay3 x0)) (k0_pay20 (F := F) (k0_pay3 x0))
          (k0_pay21 (k0_pay19 (F := F) (k0_pay3 x0)) (k0_pay20 (F := F) (k0_pay3 x0)))
          (k0_pay73 x5 (k0_pay72 x5) (Scalar.ofBits .f32 0x40000000#32)))

/-- The shapes of the pieces fill the axis of the concatenation. -/
theorem parts_concatenates : Shape.Concatenates ((parts x0 x1 x2 x3 x4 x5).map (·.1)) S512x6160 1 := by
  have h : (parts x0 x1 x2 x3 x4 x5).map (·.1) = S512x16 :: List.replicate 48 S512x128 := rfl
  rw [h]; decide

/-- The feature matrix that the body multiplies with the first weights. -/
def features : FVec F S512x6160 .f32 :=
  concatenate S512x6160 1 (parts x0 x1 x2 x3 x4 x5) (parts_concatenates x0 x1 x2 x3 x4 x5)

end

/-- What the body leaves in its output block: the three layers over the feature matrix. -/
theorem out_eq (x0 : Vec F S16x512x128 .i8) (x1 : Vec F S512x1 .i32) (x2 : Vec F S29x16 .f32) (x3 : Vec F S5x16 .f32) (x4 : Vec F S4x16 .f32)
    (x5 : Vec F S8x16 .f32) (x6 : Vec F S6160x128 .f32) (x7 : Vec F S128x64 .f32) (x8 : Vec F S64x1 .f32) (x9 : Vec F S1x128 .f32)
    (x10 : Vec F S1x64 .f32) (x11 : Vec F S1x1 .f32) :
    out0_12 x0 x1 x2 x3 x4 x5 x6 x7 x8 x9 x10 x11
      = View.canon [⟨r0_0, k0_pay1 (k0_pay98 (features (View.ld x0 r0_2) (View.ld x1 r0_0) (View.ld x2 r0_1) (View.ld x3 r0_3)
          (View.ld x4 r0_4) (View.ld x5 r0_5)) (View.ld x6 r0_6) (View.ld x9 r0_7) (View.ld x7 r0_8) (View.ld x10 r0_9) (View.ld x8 r0_10))
          (View.ld x11 r0_11)⟩] := by
  rfl

end Cert.KernelIdeal.Columns

end
-- ==== Proof.Maths.lean ====
module

public import Idealize.ShloMosaic.Lib.Pointwise
public import Idealize.ShloMosaic.Lib.Tactic.IndexArith

@[expose] public section

set_option maxRecDepth 16384

noncomputable section

namespace Cert.Maths

open Idealize.ShloMosaic

/-- Entry `(v, d)` of an embedding table whose rows are scaled down to length at most two. -/
def renorm {n : Nat} (T : (⟨2, ![n, 16]⟩ : Shape).Idx → EReal) (v : Fin n) (d : Fin 16) : EReal :=
  T (ix2 v d) * min 1 (Ideal.div (Ideal.ofBits FTy.f32 0x40000000#32)
    (max (Ideal.sqrt (∑ k : Fin 16, T (ix2 v k) * T (ix2 v k))) (Ideal.ofBits FTy.f32 0x33D6BF95#32)))

/-- The last two layers and the head, from the first layer's products `s`. -/
def net (s : Fin 128 → EReal) (b1 : Fin 128 → EReal) (W2 : Fin 128 → Fin 64 → EReal) (b2 : Fin 64 → EReal) (W3 : Fin 64 → EReal)
    (b3 : EReal) : EReal :=
  ∑ j : Fin 64, max (∑ i : Fin 128, max (s i + b1 i) 0 * W2 i j + b2 j) 0 * W3 j + b3

/-- Equal products and equal biases give equal results. -/
theorem net_congr {s s' b1 b1' : Fin 128 → EReal} (W2 : Fin 128 → Fin 64 → EReal) {b2 b2' : Fin 64 → EReal} (W3 : Fin 64 → EReal)
    {b3 b3' : EReal} (hs : ∀ i, s i = s' i) (h1 : ∀ i, b1 i = b1' i) (h2 : ∀ j, b2 j = b2' j) (h3 : b3 = b3') :
    net s b1 W2 b2 W3 b3 = net s' b1' W2 b2' W3 b3' := by
  rw [funext hs, funext h1, funext h2, h3]

/-- The constant sixteen. -/
theorem ofBits_sixteen : Ideal.ofBits FTy.f32 0x41800000#32 = ((16 : ℝ) : EReal) := by
  simp [Ideal.ofBits, Ideal.ieee, -EReal.coe_mul]; norm_num

/-- The constant one sixteenth. -/
theorem ofBits_sixteenth : Ideal.ofBits FTy.f32 0x3D800000#32 = ((1 / 16 : ℝ) : EReal) := by
  simp [Ideal.ofBits, Ideal.ieee, -EReal.coe_mul]; norm_num

/-- How many of the sixteen codes of a pool are `v`, as an extended real. -/
def count (r : Fin 16 → Fin 4) (v : Fin 4) : EReal := ∑ w : Fin 16, if r w = v then 1 else 0

/-- A count is a natural number. -/
theorem count_eq (r : Fin 16 → Fin 4) (v : Fin 4) :
    count r v = (((Finset.univ.filter fun w => r w = v).card : ℝ) : EReal) := by
  unfold count
  rw [Finset.sum_ite, Finset.sum_const, Finset.sum_const_zero, add_zero, nsmul_one]
  rfl

/-- The number of codes that are zero is sixteen less the numbers of the others. -/
theorem count_zero (r : Fin 16 → Fin 4) : ((16 : ℝ) : EReal) - (count r 1 + count r 2 + count r 3) = count r 0 := by
  have h := Finset.card_eq_sum_card_fiberwise (f := r) (s := Finset.univ) (t := Finset.univ) (fun _ _ => Finset.mem_coe.2 (Finset.mem_univ _))
  rw [Fin.sum_univ_four, Finset.card_univ, Fintype.card_fin] at h
  have h' := congrArg (fun n : Nat => (n : ℝ)) h
  push_cast at h'
  simp only [count_eq]
  rw [← EReal.coe_add, ← EReal.coe_add, ← EReal.coe_sub]
  congr 1
  linarith

/-- The sum of a pool's table entries, gathered by the value of the code. -/
theorem sum_codes (r : Fin 16 → Fin 4) (f : Fin 4 → EReal) :
    ∑ w : Fin 16, f (r w) = count r 0 * f 0 + count r 1 * f 1 + count r 2 * f 2 + count r 3 * f 3 := by
  rw [← Finset.sum_fiberwise Finset.univ r, Fin.sum_univ_four]
  have h : ∀ v : Fin 4, (∑ w ∈ Finset.univ.filter (fun w => r w = v), f (r w)) = count r v * f v := fun v => by
    rw [Finset.sum_congr rfl (fun w hw => congrArg f (Finset.mem_filter.1 hw).2), Finset.sum_const, count_eq, EReal.nsmul_eq_mul]
    rfl
  rw [h, h, h, h]

/-- THE POOLING LAW: four counts times the table's entries scaled by a sixteenth are the mean of the entries that the codes select. -/
theorem pool (r : Fin 16 → Fin 4) (f : Fin 4 → EReal) :
    (Ideal.ofBits FTy.f32 0x41800000#32 - (count r 1 + count r 2 + count r 3)) * (f 0 * Ideal.ofBits FTy.f32 0x3D800000#32)
        + count r 1 * (f 1 * Ideal.ofBits FTy.f32 0x3D800000#32)
        + count r 2 * (f 2 * Ideal.ofBits FTy.f32 0x3D800000#32)
        + count r 3 * (f 3 * Ideal.ofBits FTy.f32 0x3D800000#32)
      = Ideal.div (∑ w : Fin 16, f (r w)) (Ideal.ofBits FTy.f32 0x41800000#32) := by
  have hs : (0 : EReal) ≤ ((1 / 16 : ℝ) : EReal) := by exact_mod_cast (by norm_num : (0 : ℝ) ≤ 1 / 16)
  have ht : ((1 / 16 : ℝ) : EReal) ≠ ⊤ := EReal.coe_ne_top _
  rw [ofBits_sixteen, ofBits_sixteenth, count_zero, Ideal.div_coe (by norm_num), sum_codes]
  rw [EReal.right_distrib_of_nonneg_of_ne_top hs ht, EReal.right_distrib_of_nonneg_of_ne_top hs ht,
    EReal.right_distrib_of_nonneg_of_ne_top hs ht]
  simp only [mul_assoc]

/-! ## Comparison bits as numbers -/

/-- A comparison bit, widened and read as a number, is one or zero. -/
theorem bit_eq {w : Nat} (a b : BitVec w) :
    (FloatOps.sitofp (F := Ideal) FTy.f32 (BitVec.setWidth 32 (IntOp.cmpi CmpIPredicate.eq a b)) : EReal) = if a = b then 1 else 0 := by
  show (((BitVec.setWidth 32 (IntOp.cmpi CmpIPredicate.eq a b)).toInt : ℝ) : EReal) = _
  by_cases h : a = b
  · subst h; simp [IntOp.cmpi]
  · have hb : (a == b) = false := by simpa using h
    simp [IntOp.cmpi, h, hb]

/-- A one-hot row times a table is the selected row of the table. -/
theorem onehot {n : Nat} (hn : n < 2 ^ 32) (y : BitVec 32) (t : Fin n) (hy : y = BitVec.ofNat 32 t.val) (g : Fin n → EReal) :
    ∑ x : Fin n, (FloatOps.sitofp (F := Ideal) FTy.f32 (BitVec.setWidth 32 (IntOp.cmpi CmpIPredicate.eq y (BitVec.ofNat 32 x.val))) : EReal) * g x
      = g t := by
  rw [Finset.sum_eq_single t]
  · rw [bit_eq, if_pos hy, one_mul]
  · intro x _ hx
    rw [bit_eq, if_neg, zero_mul]
    intro h
    apply hx
    apply Fin.ext
    have := congrArg BitVec.toNat (h.symm.trans hy)
    simp only [BitVec.toNat_ofNat] at this
    rwa [Nat.mod_eq_of_lt (lt_trans x.isLt hn), Nat.mod_eq_of_lt (lt_trans t.isLt hn)] at this
  · intro h; exact absurd (Finset.mem_univ _) h

/-! ## The order of the pooled features -/

/-- Where the row `q` of the reordered weights stands in the original ones: the tissue rows first, then, of the pooled features,
    position `p` of column `c` stands at `16 + 48 p + c`. -/
def reorder (q : Fin 6160) : Fin 6160 :=
  if h : q.val < 16 then q
  else ⟨16 + (q.val - 16) % 128 * 48 + (q.val - 16) / 128, by have := q.isLt; omega⟩

/-- The reordering visits every row once. -/
theorem reorder_bijective : Function.Bijective reorder := by
  apply Finite.injective_iff_bijective.1
  intro a b h
  have h' := congrArg Fin.val h
  have ha := a.isLt
  have hb := b.isLt
  apply Fin.ext
  unfold reorder at h'
  split at h' <;> split at h' <;> (try simp only at h') <;> omega

/-- A sum over the rows may be taken in either order. -/
theorem sum_reorder (f g : Fin 6160 → EReal) (h : ∀ q, f q = g (reorder q)) : ∑ q, f q = ∑ q, g q := by
  rw [Finset.sum_congr rfl fun q _ => h q]
  exact reorder_bijective.sum_comp g

/-! ## The rows by table, column and position -/

/-- The row of tissue feature `d`. -/
def tissueRow (d : Fin 16) : Fin 6160 := ⟨d.val, by omega⟩

/-- The row, in the reordered weights, of column `d` of table `k` at position `p`. -/
def kernelRow (k : Fin 3) (d : Fin 16) (p : Fin 128) : Fin 6160 := ⟨16 + ((k.val * 16 + d.val) * 128 + p.val), by omega⟩

/-- The row, in the original weights, of column `d` of table `k` at position `p`. -/
def sourceRow (k : Fin 3) (d : Fin 16) (p : Fin 128) : Fin 6160 := ⟨16 + (p.val * 48 + (k.val * 16 + d.val)), by omega⟩

/-- The reordering leaves the tissue rows. -/
theorem reorder_tissueRow (d : Fin 16) : reorder (tissueRow d) = tissueRow d := by
  unfold reorder tissueRow
  rw [dif_pos d.isLt]

/-- The reordering sends each pooled row to its row in the original weights. -/
theorem reorder_kernelRow (k : Fin 3) (d : Fin 16) (p : Fin 128) : reorder (kernelRow k d p) = sourceRow k d p := by
  unfold reorder kernelRow sourceRow
  rw [dif_neg (by simp only; omega)]
  apply Fin.ext
  simp only
  omega

/-- Every row is a tissue row or the row of some column of some table at some position. -/
theorem row_cases (P : Fin 6160 → Prop) (h0 : ∀ d, P (tissueRow d)) (h1 : ∀ k d p, P (kernelRow k d p)) (q : Fin 6160) : P q := by
  by_cases h : q.val < 16
  · exact h0 ⟨q.val, h⟩
  · have hq := q.isLt
    have e : q = kernelRow ⟨(q.val - 16) / 2048, by omega⟩ ⟨(q.val - 16) / 128 % 16, by omega⟩ ⟨(q.val - 16) % 128, by omega⟩ := by
      apply Fin.ext
      unfold kernelRow
      simp only
      omega
    rw [e]
    exact h1 _ _ _

/-- Two products over the rows agree when they agree row by row after the reordering. -/
theorem sum_rows (a w x v : Fin 6160 → EReal) (ha : ∀ d, a (tissueRow d) = x (tissueRow d)) (hw : ∀ d, w (tissueRow d) = v (tissueRow d))
    (ha' : ∀ k d p, a (kernelRow k d p) = x (sourceRow k d p)) (hw' : ∀ k d p, w (kernelRow k d p) = v (sourceRow k d p)) :
    ∑ q, a q * w q = ∑ q, x q * v q :=
  sum_reorder (fun q => a q * w q) (fun q => x q * v q) fun q => row_cases (fun q => a q * w q = x (reorder q) * v (reorder q))
    (fun d => by rw [reorder_tissueRow, ha, hw]) (fun k d p => by rw [reorder_kernelRow, ha', hw']) q

/-! ## The pools -/

/-- The sixteen codes of kind `k` in the pool at position `p` of batch row `b`. -/
def window (R : Fin 512 → Fin 2048 → Fin 3 → Fin 4) (k : Fin 3) (b : Fin 512) (p : Fin 128) : Fin 16 → Fin 4 :=
  fun w => R b ⟨p.val * 16 + w.val, by omega⟩ k

/-- The mean, over a pool of codes, of column `d` of a table with scaled rows. -/
def mean {n : Nat} (hn : 4 ≤ n) (T : (⟨2, ![n, 16]⟩ : Shape).Idx → EReal) (d : Fin 16) (r : Fin 16 → Fin 4) : EReal :=
  Ideal.div (∑ w : Fin 16, renorm T (Fin.castLE hn (r w)) d) (Ideal.ofBits FTy.f32 0x41800000#32)

/-! ## The packed codes -/

/-- Three codes of two bits each, packed in one byte. -/
def packed (c : Fin 3 → Fin 4) : BitVec 8 := BitVec.ofNat 8 ((c 0).val + (c 1).val * 4 + (c 2).val * 16)

/-- Packing by shifts and sums in words of 32 bits, then cutting to a byte. -/
theorem packed_eq (c : Fin 3 → Fin 4) :
    BitVec.setWidth 8 ((BitVec.ofNat 32 (c 0).val + BitVec.ofNat 32 (c 1).val <<< 2) + BitVec.ofNat 32 (c 2).val <<< 4) = packed c := by
  have h : ∀ x y z : Fin 4, BitVec.setWidth 8 ((BitVec.ofNat 32 x.val + BitVec.ofNat 32 y.val <<< 2) + BitVec.ofNat 32 z.val <<< 4)
      = BitVec.ofNat 8 (x.val + y.val * 4 + z.val * 16) := by decide
  exact h _ _ _

/-- A mask of two bits finds each of the packed codes. -/
theorem packed_and (c : Fin 3 → Fin 4) (k : Fin 3) (v : Fin 4) :
    IntOp.andi (BitVec.signExtend 32 (packed c)) (3#32 <<< (2 * k.val)) = BitVec.ofNat 32 v.val <<< (2 * k.val) ↔ c k = v := by
  have h : ∀ x y z : Fin 4, ∀ k : Fin 3, ∀ v : Fin 4,
      IntOp.andi (BitVec.signExtend 32 (BitVec.ofNat 8 (x.val + y.val * 4 + z.val * 16))) (3#32 <<< (2 * k.val))
        = BitVec.ofNat 32 v.val <<< (2 * k.val) ↔ ![x, y, z] k = v := by decide
  have e : ![c 0, c 1, c 2] k = c k := by fin_cases k <;> rfl
  rw [← e]
  exact h _ _ _ _ _

/-- Comparing the masked codes of a pool with a code's bits and adding the bits up counts that code. -/
theorem tally (c : Fin 16 → Fin 3 → Fin 4) (k : Fin 3) (v : Fin 4) :
    ∑ w : Fin 16, (FloatOps.sitofp (F := Ideal) FTy.f32 (BitVec.setWidth 32 (IntOp.cmpi CmpIPredicate.eq
        (IntOp.andi (BitVec.signExtend 32 (packed (c w))) (3#32 <<< (2 * k.val))) (BitVec.ofNat 32 v.val <<< (2 * k.val)))) : EReal)
      = count (fun w => c w k) v := by
  unfold count
  refine Finset.sum_congr rfl fun w _ => ?_
  rw [bit_eq]
  simp only [packed_and]

end Cert.Maths

end
-- ==== Proof.Block.lean ====
module

public import proofs.«01_k».proof.Proof.Columns
public import proofs.«01_k».proof.Proof.Maths

@[expose] public section

set_option maxRecDepth 16384

noncomputable section

namespace Cert.KernelIdeal.Block

open Idealize.ShloMosaic Idealize.SL.Sem
open Cert.KernelIdeal Cert.KernelIdeal.Gen Cert.KernelIdeal.Columns Cert.Maths

/-! ## The pieces of the feature matrix -/

section
variable (x0 : Vec Ideal S16x512x128 .i8) (x1 : Vec Ideal S512x1 .i32) (x2 : Vec Ideal S29x16 .f32) (x3 : Vec Ideal S5x16 .f32)
  (x4 : Vec Ideal S4x16 .f32) (x5 : Vec Ideal S8x16 .f32)

/-- The shapes of the pieces: the tissue features' shape, then forty-eight times a column's shape. -/
theorem parts_shapes : (parts (F := Ideal) x0 x1 x2 x3 x4 x5).map (·.1) = S512x16 :: List.replicate 48 S512x128 := rfl

/-- There are forty-nine pieces. -/
theorem parts_length : (parts (F := Ideal) x0 x1 x2 x3 x4 x5).length = 49 := by
  have h := congrArg List.length (parts_shapes x0 x1 x2 x3 x4 x5)
  simpa using h

/-- The first sixteen columns of the feature matrix are the tissue features. -/
theorem features_tissue (b : Fin 512) (d : Fin 16) :
    features (F := Ideal) x0 x1 x2 x3 x4 x5 (ix2 b (tissueRow d)) = k0_pay2 (F := Ideal) x1 x2 (ix2 b d) := by
  refine concatenate_apply_piece 1 (parts (F := Ideal) x0 x1 x2 x3 x4 x5) (parts_concatenates x0 x1 x2 x3 x4 x5) (ix2 b (tissueRow d)) 0 (by rw [parts_length]; decide) S512x16 (k0_pay2 (F := Ideal) x1 x2) rfl rfl 0 rfl (ix2 b d) ?_ ?_
  · intro a ha
    match a with
    | ⟨0, _⟩ => rfl
    | ⟨1, _⟩ => exact absurd rfl ha
  · exact Nat.zero_add _

/-- The columns from `16 + 128 k` on are the piece `k + 1`. -/
theorem features_piece (k : Fin 48) (c : FVec Ideal S512x128 .f32)
    (h : (parts (F := Ideal) x0 x1 x2 x3 x4 x5)[k.val + 1]'(by rw [parts_length]; omega) = ⟨S512x128, c⟩) (b : Fin 512) (p : Fin 128)
    (q : Fin 6160) (hq : q.val = 16 + (k.val * 128 + p.val)) :
    features (F := Ideal) x0 x1 x2 x3 x4 x5 (ix2 b q) = c (ix2 b p) := by
  refine concatenate_apply_piece 1 (parts (F := Ideal) x0 x1 x2 x3 x4 x5) (parts_concatenates x0 x1 x2 x3 x4 x5) (ix2 b q) (k.val + 1) (by rw [parts_length]; omega) S512x128 c h rfl (16 + k.val * 128) ?_ (ix2 b p) ?_ ?_
  · rw [List.map_take, parts_shapes, List.take_succ_cons, List.take_replicate, Nat.min_eq_left (by omega), List.map_cons, List.map_replicate,
      List.sum_cons, List.sum_replicate]
    rfl
  · intro a ha
    match a with
    | ⟨0, _⟩ => rfl
    | ⟨1, _⟩ => exact absurd rfl ha
  · show 16 + k.val * 128 + p.val = q.val
    omega

end

/-- A column at an index: the four counts there, times the table's entries. -/
theorem column_apply {n : Nat} (hn : 4 ≤ n) (c1 c2 c3 c0 : FVec Ideal S512x128 .f32) (T : FVec Ideal ⟨2, ![n, 16]⟩ .f32) (d : Fin 16)
    (b : Fin 512) (p : Fin 128) :
    column (F := Ideal) hn c1 c2 c3 c0 T d (ix2 b p)
      = c0 (ix2 b p) * T (ix2 (Fin.castLE hn 0) d) + c1 (ix2 b p) * T (ix2 (Fin.castLE hn 1) d)
        + c2 (ix2 b p) * T (ix2 (Fin.castLE hn 2) d) + c3 (ix2 b p) * T (ix2 (Fin.castLE hn 3) d) := by
  have h : ∀ v : Fin 4, broadcastTo S512x128 (cell (F := Ideal) hn T v d) broadcasts_S1x1_S512x128 (ix2 b p) = T (ix2 (Fin.castLE hn v) d) := by
    intro v
    refine congrArg T ?_
    funext a
    match a with
    | ⟨0, _⟩ => exact Fin.ext (Nat.add_zero _)
    | ⟨1, _⟩ => exact Fin.ext (Nat.add_zero _)
  show c0 (ix2 b p) * _ + c1 (ix2 b p) * _ + c2 (ix2 b p) * _ + c3 (ix2 b p) * _ = _
  rw [h, h, h, h]

/-! ## The tables with scaled rows -/

/-- The product of the one-hot rows with the scaled table is the scaled row of each tissue's code. -/
theorem tissue_apply (x1 : Vec Ideal S512x1 .i32) (x2 : Vec Ideal S29x16 .f32) (b : Fin 512) (t : Fin 29)
    (ht : x1 (ix2 b 0) = BitVec.ofNat 32 t.val) (d : Fin 16) : k0_pay2 (F := Ideal) x1 x2 (ix2 b d) = renorm x2 t d := by
  pointwise [k0_pay2]
  exact onehot (by decide) _ t ht (fun v => renorm x2 v d)

/-- The first token table, its rows scaled, times a sixteenth. -/
theorem first_table (x3 : Vec Ideal S5x16 .f32) (v : Fin 5) (d : Fin 16) :
    k0_pay22 (F := Ideal) x3 (ix2 v d) = renorm x3 v d * Ideal.ofBits FTy.f32 0x3D800000#32 := by
  pointwise [k0_pay22]
  rfl

/-- The second token table, its rows scaled, times a sixteenth. -/
theorem second_table (x4 : Vec Ideal S4x16 .f32) (v : Fin 4) (d : Fin 16) :
    k0_pay47 (F := Ideal) x4 (ix2 v d) = renorm x4 v d * Ideal.ofBits FTy.f32 0x3D800000#32 := by
  pointwise [k0_pay47]
  rfl

/-- The third token table, its rows scaled, times a sixteenth. -/
theorem third_table (x5 : Vec Ideal S8x16 .f32) (v : Fin 8) (d : Fin 16) :
    k0_pay73 (F := Ideal) x5 (k0_pay72 x5) (Scalar.ofBits .f32 0x40000000#32) (ix2 v d)
      = renorm x5 v d * Ideal.ofBits FTy.f32 0x3D800000#32 := by
  pointwise [k0_pay73, k0_pay72]
  rfl

/-! ## The counts -/

section
variable (x0 : Vec Ideal S16x512x128 .i8) (R : Fin 512 → Fin 2048 → Fin 3 → Fin 4)
  (hx : ∀ w b p, x0 (ix3 w b p) = packed fun k => window R k b p w) (b : Fin 512) (p : Fin 128)
include hx

/-- The sums over a pool for the first token: how often the codes one, two and three stand there. -/
theorem count_first :
    k0_pay5 (F := Ideal) x0 (ix2 b p) = count (window R 0 b p) 1 ∧ k0_pay6 (F := Ideal) x0 (ix2 b p) = count (window R 0 b p) 2
      ∧ k0_pay9 (F := Ideal) (k0_pay8 x0) (ix2 b p) = count (window R 0 b p) 3 := by
  refine ⟨?_, ?_, ?_⟩
  · pointwise [k0_pay5, k0_pay4, k0_pay3]
    simp only [hx]
    exact tally (fun w k => window R k b p w) 0 1
  · pointwise [k0_pay6, k0_pay4, k0_pay3]
    simp only [hx]
    exact tally (fun w k => window R k b p w) 0 2
  · pointwise [k0_pay9, k0_pay8, k0_pay4, k0_pay3]
    simp only [hx]
    exact tally (fun w k => window R k b p w) 0 3

/-- The sums over a pool for the second token: how often the codes one, two and three stand there. -/
theorem count_second :
    k0_pay12 (F := Ideal) (k0_pay3 x0) (ix2 b p) = count (window R 1 b p) 1
      ∧ k0_pay13 (F := Ideal) (k0_pay3 x0) (ix2 b p) = count (window R 1 b p) 2
      ∧ k0_pay14 (F := Ideal) (k0_pay3 x0) (ix2 b p) = count (window R 1 b p) 3 := by
  refine ⟨?_, ?_, ?_⟩
  · pointwise [k0_pay12, k0_pay11, k0_pay3]
    simp only [hx]
    exact tally (fun w k => window R k b p w) 1 1
  · pointwise [k0_pay13, k0_pay11, k0_pay3]
    simp only [hx]
    exact tally (fun w k => window R k b p w) 1 2
  · pointwise [k0_pay14, k0_pay11, k0_pay3]
    simp only [hx]
    exact tally (fun w k => window R k b p w) 1 3

/-- The sums over a pool for the third token: how often the codes one, two and three stand there. -/
theorem count_third :
    k0_pay17 (F := Ideal) (k0_pay3 x0) (ix2 b p) = count (window R 2 b p) 1
      ∧ k0_pay18 (F := Ideal) (k0_pay3 x0) (ix2 b p) = count (window R 2 b p) 2
      ∧ k0_pay20 (F := Ideal) (k0_pay3 x0) (ix2 b p) = count (window R 2 b p) 3 := by
  refine ⟨?_, ?_, ?_⟩
  · pointwise [k0_pay17, k0_pay16, k0_pay3]
    simp only [hx]
    exact tally (fun w k => window R k b p w) 2 1
  · pointwise [k0_pay18, k0_pay16, k0_pay3]
    simp only [hx]
    exact tally (fun w k => window R k b p w) 2 2
  · pointwise [k0_pay20, k0_pay16, k0_pay3]
    simp only [hx]
    exact tally (fun w k => window R k b p w) 2 3

end

/-! ## The pooled features -/

/-- A column whose counts are a pool's, over a table with scaled rows times a sixteenth, is the pool's mean. -/
theorem column_mean {n : Nat} (hn : 4 ≤ n) (c1 c2 c3 c0 : FVec Ideal S512x128 .f32) (T X : FVec Ideal ⟨2, ![n, 16]⟩ .f32) (d : Fin 16)
    (b : Fin 512) (p : Fin 128) (r : Fin 16 → Fin 4)
    (h : c1 (ix2 b p) = count r 1 ∧ c2 (ix2 b p) = count r 2 ∧ c3 (ix2 b p) = count r 3)
    (h0 : c0 (ix2 b p) = Ideal.ofBits FTy.f32 0x41800000#32 - (c1 (ix2 b p) + c2 (ix2 b p) + c3 (ix2 b p)))
    (hT : ∀ v d, T (ix2 v d) = renorm X v d * Ideal.ofBits FTy.f32 0x3D800000#32) :
    column (F := Ideal) hn c1 c2 c3 c0 T d (ix2 b p) = mean hn X d r := by
  rw [column_apply, h0, h.1, h.2.1, h.2.2, hT, hT, hT, hT]
  exact pool r fun v => renorm X (Fin.castLE hn v) d

section
variable (x0 : Vec Ideal S16x512x128 .i8) (x1 : Vec Ideal S512x1 .i32) (x2 : Vec Ideal S29x16 .f32) (x3 : Vec Ideal S5x16 .f32)
  (x4 : Vec Ideal S4x16 .f32) (x5 : Vec Ideal S8x16 .f32) (R : Fin 512 → Fin 2048 → Fin 3 → Fin 4)
  (hx : ∀ w b p, x0 (ix3 w b p) = packed fun k => window R k b p w) (b : Fin 512) (d : Fin 16) (p : Fin 128)
include hx

/-- The columns of the first token table hold the pools' means. -/
theorem features_first :
    features (F := Ideal) x0 x1 x2 x3 x4 x5 (ix2 b (kernelRow 0 d p)) = mean (by decide : 4 ≤ 5) x3 d (window R 0 b p) := by
  rw [features_piece x0 x1 x2 x3 x4 x5 ⟨d.val, by omega⟩ (column (by decide) (k0_pay5 x0) (k0_pay6 x0) (k0_pay9 (k0_pay8 x0))
    (k0_pay10 (k0_pay7 x0) (k0_pay8 x0)) (k0_pay22 x3) d) (by fin_cases d <;> rfl) b p (kernelRow 0 d p) (by unfold kernelRow; simp)]
  refine column_mean _ _ _ _ _ _ _ _ _ _ _ (count_first x0 R hx b p) ?_ (first_table x3)
  pointwise [k0_pay10, k0_pay7]

/-- The columns of the second token table hold the pools' means. -/
theorem features_second :
    features (F := Ideal) x0 x1 x2 x3 x4 x5 (ix2 b (kernelRow 1 d p)) = mean (by decide : 4 ≤ 4) x4 d (window R 1 b p) := by
  rw [features_piece x0 x1 x2 x3 x4 x5 ⟨16 + d.val, by omega⟩ (column (by decide) (k0_pay12 (F := Ideal) (k0_pay3 x0))
    (k0_pay13 (F := Ideal) (k0_pay3 x0)) (k0_pay14 (F := Ideal) (k0_pay3 x0)) (k0_pay15 (F := Ideal) (k0_pay3 x0)) (k0_pay47 x4) d)
    (by fin_cases d <;> rfl) b p (kernelRow 1 d p) (by unfold kernelRow; simp)]
  refine column_mean _ _ _ _ _ _ _ _ _ _ _ (count_second x0 R hx b p) ?_ (second_table x4)
  pointwise [k0_pay15]

/-- The columns of the third token table hold the pools' means. -/
theorem features_third :
    features (F := Ideal) x0 x1 x2 x3 x4 x5 (ix2 b (kernelRow 2 d p)) = mean (by decide : 4 ≤ 8) x5 d (window R 2 b p) := by
  rw [features_piece x0 x1 x2 x3 x4 x5 ⟨32 + d.val, by omega⟩ (column (by decide) (k0_pay17 (F := Ideal) (k0_pay3 x0))
    (k0_pay18 (F := Ideal) (k0_pay3 x0)) (k0_pay20 (F := Ideal) (k0_pay3 x0))
    (k0_pay21 (k0_pay19 (F := Ideal) (k0_pay3 x0)) (k0_pay20 (F := Ideal) (k0_pay3 x0)))
    (k0_pay73 x5 (k0_pay72 x5) (Scalar.ofBits .f32 0x40000000#32)) d)
    (by fin_cases d <;> rfl) b p (kernelRow 2 d p) (by unfold kernelRow; simp)]
  refine column_mean _ _ _ _ _ _ _ _ _ _ _ (count_third x0 R hx b p) ?_ (third_table x5)
  pointwise [k0_pay21, k0_pay19]

end

/-! ## The layers -/

/-- What the body's three layers leave at batch row `b`, from the feature matrix. -/
theorem layers_apply (A : FVec Ideal S512x6160 .f32) (x6 : Vec Ideal S6160x128 .f32) (x7 : Vec Ideal S128x64 .f32) (x8 : Vec Ideal S64x1 .f32)
    (x9 : Vec Ideal S1x128 .f32) (x10 : Vec Ideal S1x64 .f32) (x11 : Vec Ideal S1x1 .f32) (b : Fin 512) :
    k0_pay1 (F := Ideal) (k0_pay98 A x6 x9 x7 x10 x8) x11 (ix2 b 0)
      = net (fun i => ∑ q : Fin 6160, A (ix2 b q) * x6 (ix2 q i)) (fun i => x9 (ix2 0 i)) (fun i j => x7 (ix2 i j))
          (fun j => x10 (ix2 0 j)) (fun j => x8 (ix2 j 0)) (x11 (ix2 0 0)) := by
  pointwise [k0_pay1, k0_pay98]
  rfl

end Cert.KernelIdeal.Block

end
-- ==== Proof.Array.lean ====
module

public import proofs.«01_k».proof.Proof.Block
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Array

open Idealize.ShloMosaic Idealize.SL.Sem
open Cert.KernelIdeal Cert.KernelIdeal.Gen Cert.KernelIdeal.Columns Cert.Maths

variable {F : FTy → Type} [FloatOps F]

/-- What the body leaves in its output block, every block being read and written as a whole. -/
theorem out_whole (x0 : Vec F S16x512x128 .i8) (x1 : Vec F S512x1 .i32) (x2 : Vec F S29x16 .f32) (x3 : Vec F S5x16 .f32) (x4 : Vec F S4x16 .f32)
    (x5 : Vec F S8x16 .f32) (x6 : Vec F S6160x128 .f32) (x7 : Vec F S128x64 .f32) (x8 : Vec F S64x1 .f32) (x9 : Vec F S1x128 .f32)
    (x10 : Vec F S1x64 .f32) (x11 : Vec F S1x1 .f32) :
    out0_12 x0 x1 x2 x3 x4 x5 x6 x7 x8 x9 x10 x11 = k0_pay1 (k0_pay98 (features x0 x1 x2 x3 x4 x5) x6 x9 x7 x10 x8) x11 := by
  rw [out_eq]
  rw [View.ld_unit_zero (S := S16x512x128) (by decide), View.ld_unit_zero (S := S512x1) (by decide), View.ld_unit_zero (S := S29x16) (by decide),
    View.ld_unit_zero (S := S5x16) (by decide), View.ld_unit_zero (S := S4x16) (by decide), View.ld_unit_zero (S := S8x16) (by decide),
    View.ld_unit_zero (S := S6160x128) (by decide), View.ld_unit_zero (S := S128x64) (by decide), View.ld_unit_zero (S := S64x1) (by decide),
    View.ld_unit_zero (S := S1x128) (by decide), View.ld_unit_zero (S := S1x64) (by decide), View.ld_unit_zero (S := S1x1) (by decide)]
  exact View.canon_unit_zero (by decide) _ _

variable (m : (ℓ : Loc nD τ sig) → Buf (Elt F) ℓ)

/-- Every window stands at the start of its array at the grid's one point. -/
theorem index_zero : (∀ a, win0_0.index t0_0 a = 0) ∧ (∀ a, win0_1.index t0_0 a = 0) ∧ (∀ a, win0_2.index t0_0 a = 0)
    ∧ (∀ a, win0_3.index t0_0 a = 0) ∧ (∀ a, win0_4.index t0_0 a = 0) ∧ (∀ a, win0_5.index t0_0 a = 0) ∧ (∀ a, win0_6.index t0_0 a = 0)
    ∧ (∀ a, win0_7.index t0_0 a = 0) ∧ (∀ a, win0_8.index t0_0 a = 0) ∧ (∀ a, win0_9.index t0_0 a = 0)
    ∧ (∀ a, win0_10.index t0_0 a = 0) ∧ (∀ a, win0_11.index t0_0 a = 0) := by decide +kernel

/-- Window 0 holds its whole array. -/
theorem block0 (c : Dev nD) : iblk m c 0 t0_0 = V m c main_v14 := by blk_ext! [iblk, index_zero]
/-- Window 1 holds its whole array. -/
theorem block1 (c : Dev nD) : iblk m c 1 t0_0 = V m c main_v15 := by blk_ext! [iblk, index_zero]
/-- Window 2 holds its whole array. -/
theorem block2 (c : Dev nD) : iblk m c 2 t0_0 = V m c main_arg2 := by blk_ext! [iblk, index_zero]
/-- Window 3 holds its whole array. -/
theorem block3 (c : Dev nD) : iblk m c 3 t0_0 = V m c main_arg3 := by blk_ext! [iblk, index_zero]
/-- Window 4 holds its whole array. -/
theorem block4 (c : Dev nD) : iblk m c 4 t0_0 = V m c main_arg4 := by blk_ext! [iblk, index_zero]
/-- Window 5 holds its whole array. -/
theorem block5 (c : Dev nD) : iblk m c 5 t0_0 = V m c main_arg5 := by blk_ext! [iblk, index_zero]
/-- Window 6 holds its whole array. -/
theorem block6 (c : Dev nD) : iblk m c 6 t0_0 = V m c main_v21 := by blk_ext! [iblk, index_zero]
/-- Window 7 holds its whole array. -/
theorem block7 (c : Dev nD) : iblk m c 7 t0_0 = V m c main_arg8 := by blk_ext! [iblk, index_zero]
/-- Window 8 holds its whole array. -/
theorem block8 (c : Dev nD) : iblk m c 8 t0_0 = V m c main_arg10 := by blk_ext! [iblk, index_zero]
/-- Window 9 holds its whole array. -/
theorem block9 (c : Dev nD) : iblk m c 9 t0_0 = V m c main_v22 := by blk_ext! [iblk, index_zero]
/-- Window 10 holds its whole array. -/
theorem block10 (c : Dev nD) : iblk m c 10 t0_0 = V m c main_v23 := by blk_ext! [iblk, index_zero]
/-- Window 11 holds its whole array. -/
theorem block11 (c : Dev nD) : iblk m c 11 t0_0 = V m c main_v24 := by blk_ext! [iblk, index_zero]

/-- After the run, the output array is the body's result over the arrays that the region finds. -/
theorem final (c : Dev nD) :
    (dats m 0 c).arrAt 12 cfg0.N
      = k0_pay1 (k0_pay98 (features (V m c main_v14) (V m c main_v15) (V m c main_arg2) (V m c main_arg3) (V m c main_arg4) (V m c main_arg5))
          (V m c main_v21) (V m c main_v22) (V m c main_arg8) (V m c main_v23) (V m c main_arg10)) (V m c main_v24) := by
  refine (dats m 0 c).arrAt_eq_of_after_last 12 t0_0 (by decide +kernel) _ fun j => ?_
  blk_simp
  rw [after0_12, out_whole, block0, block1, block2, block3, block4, block5, block6, block7, block8, block9, block10, block11]

end Cert.KernelIdeal.Array

end
-- ==== Proof.Entry.lean ====
module

public import proofs.«01_k».proof.Proof.Array

@[expose] public section

set_option maxRecDepth 16384

noncomputable section

namespace Cert.KernelIdeal.Array

open Idealize.ShloMosaic Idealize.SL.Sem
open Cert.KernelIdeal Cert.KernelIdeal.Gen Cert.Maths

variable {F : FTy → Type} [FloatOps F] (m : (ℓ : Loc nD τ sig) → Buf (Elt F) ℓ) (c : Dev nD)

/-- The tissue codes stand in one column. -/
theorem entry_tissue (b : Fin 512) : V m c main_v15 (ix2 b 0) = m ((c.tc : Thread nD τ).loc main_arg1) (ix1 b) := by
  entry_read
  pointwise

/-- The first layer's bias stands in one row. -/
theorem entry_bias1 (i : Fin 128) : V m c main_v22 (ix2 0 i) = m ((c.tc : Thread nD τ).loc main_arg7) (ix1 i) := by
  entry_read
  pointwise

/-- The second layer's bias stands in one row. -/
theorem entry_bias2 (i : Fin 64) : V m c main_v23 (ix2 0 i) = m ((c.tc : Thread nD τ).loc main_arg9) (ix1 i) := by
  entry_read
  pointwise

/-- The head's bias stands in one cell. -/
theorem entry_bias3 : V m c main_v24 (ix2 0 0) = m ((c.tc : Thread nD τ).loc main_arg11) (ix1 0) := by
  entry_read
  pointwise

/-- Shifting a word left by two, as the host does it. -/
theorem shift_two (x : BitVec 32) : IntOp.shli ArithUnit.host x 2#32 = x <<< 2 := rfl

/-- Shifting a word left by four, as the host does it. -/
theorem shift_four (x : BitVec 32) : IntOp.shli ArithUnit.host x 4#32 = x <<< 4 := rfl

/-- The word that the kernel finds for window element `w` of window `p` in row `b`: the three codes of that place, packed. -/
theorem entry_words (R : Fin 512 → Fin 2048 → Fin 3 → Fin 4)
    (hR : ∀ b l k, m ((c.tc : Thread nD τ).loc main_arg0) (ix3 b l k) = BitVec.ofNat 32 (R b l k).val) (w : Fin 16) (b : Fin 512) (p : Fin 128) :
    V m c main_v14 (ix3 w b p) = packed fun k => window R k b p w := by
  rw [← packed_eq]
  entry_read
  pointwise
  have h (k : Fin 3) : m (c, Proc.tc.devRef main_arg0) (ix3 b ⟨p.val * 16 + w.val, by omega⟩ k) = BitVec.ofNat 32 (window R k b p w).val := hR b _ k
  rw [h 0, h 1, h 2, shift_two, shift_four]
  rfl

/-- The tissue rows of the first layer's weights stay where they are. -/
theorem entry_weights_tissue (d : Fin 16) (i : Fin 128) :
    V m c main_v21 (ix2 (tissueRow d) i) = m ((c.tc : Thread nD τ).loc main_arg6) (ix2 (tissueRow d) i) := by
  entry_read
  pointwise
  exact dif_pos d.isLt

/-- The other rows of the first layer's weights are put in the kernel's order. -/
theorem entry_weights (k : Fin 3) (d : Fin 16) (p : Fin 128) (i : Fin 128) :
    V m c main_v21 (ix2 (kernelRow k d p) i) = m ((c.tc : Thread nD τ).loc main_arg6) (ix2 (sourceRow k d p) i) := by
  entry_read
  pointwise
  have e : (kernelRow k d p).val = 16 + ((k.val * 16 + d.val) * 128 + p.val) := rfl
  rw [dif_neg (by omega)]
  refine congrArg (fun q => m (c, Proc.tc.devRef main_arg6) (ix2 q i)) (Fin.ext ?_)
  show 16 + _ = 16 + (p.val * 48 + (k.val * 16 + d.val))
  rw [e]
  omega

end Cert.KernelIdeal.Array

end
-- ==== Proof.Taking.lean ====
module

public import proofs.«01_k».proof.ReferenceIdeal
public import proofs.«01_k».proof.Proof.Gen.ReferenceIdeal
public import Idealize.ShloMosaic.Lib.Pointwise
public import Idealize.ShloMosaic.Lib.ReduceAll
public import Idealize.ShloMosaic.Lib.Routing.Ops

@[expose] public section

set_option maxRecDepth 16384

noncomputable section

namespace Cert.ReferenceIdeal.Taking

open Idealize.ShloMosaic Idealize.SL.Sem
open Cert.ReferenceIdeal Cert.ReferenceIdeal.Gen Cert.ReferenceIdeal.Facts

/-- A row number below `2 ^ 31`, read signed and clamped to the rows, is itself. -/
theorem clamp_row {n : Nat} (hn : n < 2 ^ 31) (v : Fin n) : min (BitVec.ofNat 32 v.val).toInt.toNat (n - 1) = v.val := by
  have hv := v.isLt
  have h : (BitVec.ofNat 32 v.val).toInt = (v.val : Int) := by
    rw [BitVec.toInt_eq_toNat_of_lt (by simp; omega)]; simp; omega
  rw [h]
  omega

/-! ## Rows of a table taken by a matrix of row numbers -/

/-- The dimension numbers of taking the rows of an `n` by `16` table by a `512` by `2048` matrix of row numbers. -/
abbrev rowsDims (n : Nat) (wf : GatherDims.WF ⟨2, ![n, 16]⟩ S512x2048x1 S512x2048x16 [2] [0] [] [0] [] 2 ![1, 16]) :
    GatherDims ⟨2, ![n, 16]⟩ S512x2048x1 S512x2048x16 where
  offsetDims := [2]
  collapsedSliceDims := [0]
  operandBatchingDims := []
  startIndicesBatchingDims := []
  startIndexMap := [0]
  indexVectorDim := 2
  sliceSizes := ![1, 16]
  wf := wf

/-- The gather reads, at `(b, l, d)`, the table's entry `d` of the row whose number stands at `(b, l)`. -/
theorem gather_rows {α : Type} {n : Nat} (hn : n < 2 ^ 31) (wf) (x : (⟨2, ![n, 16]⟩ : Shape).Idx → α) (idx : IVec S512x2048x1 32)
    (b : Fin 512) (l : Fin 2048) (d : Fin 16) (v : Fin n) (hv : idx (ix3 b l 0) = BitVec.ofNat 32 v.val) :
    Host.gather (rowsDims n wf) x idx (ix3 b l d) = x (ix2 v d) := by
  unfold Host.gather
  refine congrArg x (funext fun a => Fin.ext ?_)
  show (rowsDims n wf).start (ix3 b l d) idx a + (rowsDims n wf).batchCoord (ix3 b l d) a + (rowsDims n wf).offCoord (ix3 b l d) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowsDims n wf).startIndexMap from List.mem_singleton.mpr rfl)]
    have hs : (rowsDims n wf).siIdx (ix3 b l d) ⟨List.idxOf (0 : Fin 2) (rowsDims n wf).startIndexMap,
        List.idxOf_lt_length_iff.2 (List.mem_singleton.mpr rfl)⟩ = ix3 b l 0 := by
      funext e
      match e with
      | ⟨0, _⟩ => rfl
      | ⟨1, _⟩ => rfl
      | ⟨2, _⟩ => rfl
    refine Eq.trans ?_ (clamp_row hn v)
    rw [← hv, ← hs]
    rfl
  · unfold GatherDims.start
    rw [dif_neg (show ¬ (1 : Fin 2) ∈ (rowsDims n wf).startIndexMap from fun h => absurd (List.mem_singleton.1 h) (show ¬ ((1 : Fin 2) = 0) by decide)), Nat.zero_add]
    rfl

/-- A row number after the wrap of negative numbers. -/
def wrapped {s : Shape} (idx zero size : IVec s 32) : IVec s 32 := select (cmpi .slt idx zero) (addi idx size) idx

/-- Taking rows by row numbers that are all among the first four reads those rows: no number wraps and none is filled. -/
theorem take_rows {n : Nat} (h4 : 4 ≤ n) (hn : n < 2 ^ 31) (wf) (T : FVec Ideal ⟨2, ![n, 16]⟩ .f32) (idx size : IVec S512x2048 32)
    (last : BitVec 32) (hlast : ∀ v : Fin 4, IntOp.cmpi .sle (BitVec.ofNat 32 v.val) last = 1#1) (fill : FVec Ideal S512x2048x16 .f32)
    (r : Fin 512 → Fin 2048 → Fin 4) (hr : ∀ b l, idx (ix2 b l) = BitVec.ofNat 32 (r b l).val) (b : Fin 512) (l : Fin 2048) (d : Fin 16) :
    select (broadcastInDim S512x2048x16 ![0, 1] bcast_S512x2048_S512x2048x16_0_1
        (Host.reduce IntOp.andi
          (andi (cmpi .sge (broadcastInDim S512x2048x1 ![0, 1] bcast_S512x2048_S512x2048x1_0_1
                (wrapped idx (broadcastInDim S512x2048 ![] bcast_S_S512x2048 (constantI S_ 32 0#32)) size))
              (broadcastInDim S512x2048x1 ![] bcast_S_S512x2048x1 (constantI S_ 32 0#32)))
            (cmpi .sle (broadcastInDim S512x2048x1 ![0, 1] bcast_S512x2048_S512x2048x1_0_1
                (wrapped idx (broadcastInDim S512x2048 ![] bcast_S_S512x2048 (constantI S_ 32 0#32)) size))
              (broadcastInDim S512x2048x1 ![0, 1, 2] bcast_S1x1x1_S512x2048x1_0_1_2
                (broadcastInDim S1x1x1 ![2] bcast_S1_S1x1x1_2 (constantI S1 32 last)))))
          (constantI S_ 1 1#1) reducesTo_S512x2048x1_S512x2048_d2 h_S_))
        (Host.gather (rowsDims n wf) T (broadcastInDim S512x2048x1 ![0, 1] bcast_S512x2048_S512x2048x1_0_1
          (wrapped idx (broadcastInDim S512x2048 ![] bcast_S_S512x2048 (constantI S_ 32 0#32)) size))) fill (ix3 b l d)
      = T (ix2 (Fin.castLE h4 (r b l)) d) := by
  have hw : ∀ b l, wrapped idx (broadcastInDim S512x2048 ![] bcast_S_S512x2048 (constantI S_ 32 0#32)) size (ix2 b l)
      = BitVec.ofNat 32 (r b l).val := fun b l => by
    show Scalar.select (IntOp.cmpi .slt (idx (ix2 b l)) 0#32) (IntOp.addi (idx (ix2 b l)) (size (ix2 b l))) (idx (ix2 b l)) = _
    rw [hr]
    have hs : ∀ v : Fin 4, IntOp.cmpi .slt (BitVec.ofNat 32 v.val) 0#32 = 0#1 := by decide
    rw [hs]
    rfl
  generalize wrapped idx (broadcastInDim S512x2048 ![] bcast_S_S512x2048 (constantI S_ 32 0#32)) size = W at hw ⊢
  have hc : ∀ (b : Fin 512) (l : Fin 2048) (z : Fin 1), broadcastInDim S512x2048x1 ![0, 1] bcast_S512x2048_S512x2048x1_0_1 W (ix3 b l z)
      = BitVec.ofNat 32 (r b l).val := fun b l z => by
    rw [← hw]
    pointwise []
  generalize broadcastInDim S512x2048x1 ![0, 1] bcast_S512x2048_S512x2048x1_0_1 W = C at hc ⊢
  show Scalar.select (Host.reduce IntOp.andi _ _ reducesTo_S512x2048x1_S512x2048_d2 h_S_ _) _ _ = _
  rw [Host.reduce_andi_one]
  · exact gather_rows hn wf T C b l d (Fin.castLE h4 (r b l)) (hc b l 0)
  · rfl
  · intro i
    obtain ⟨b', l', z, rfl⟩ : ∃ b' l' z, i = ix3 b' l' z := ⟨i 0, i 1, i 2, by funext a; match a with | ⟨0, _⟩ => rfl | ⟨1, _⟩ => rfl | ⟨2, _⟩ => rfl⟩
    show IntOp.andi (IntOp.cmpi .sge (C (ix3 b' l' z)) 0#32) (IntOp.cmpi .sle (C (ix3 b' l' z)) last) = 1#1
    rw [hc, hlast]
    have hs : ∀ v : Fin 4, IntOp.andi (IntOp.cmpi .sge (BitVec.ofNat 32 v.val) 0#32) 1#1 = 1#1 := by decide
    exact hs _

/-! ## Rows of the tissue table taken by a vector of row numbers -/

/-- Taking rows of the tissue table by row numbers in range reads those rows: no number wraps and none is filled. -/
theorem take_tissue (T : FVec Ideal S29x16 .f32) (idx size : IVec S512 32) (fill : FVec Ideal S512x16 .f32)
    (t : Fin 512 → Fin 29) (ht : ∀ b, idx (ix1 b) = BitVec.ofNat 32 (t b).val) (b : Fin 512) (d : Fin 16) :
    select (broadcastInDim S512x16 ![0] bcast_S512_S512x16_0
        (Host.reduce IntOp.andi
          (andi (cmpi .sge (broadcastInDim S512x1 ![0] bcast_S512_S512x1_0
                (wrapped idx (broadcastInDim S512 ![] bcast_S_S512 (constantI S_ 32 0#32)) size))
              (broadcastInDim S512x1 ![] bcast_S_S512x1 (constantI S_ 32 0#32)))
            (cmpi .sle (broadcastInDim S512x1 ![0] bcast_S512_S512x1_0
                (wrapped idx (broadcastInDim S512 ![] bcast_S_S512 (constantI S_ 32 0#32)) size))
              (broadcastInDim S512x1 ![0, 1] bcast_S1x1_S512x1_0_1
                (broadcastInDim S1x1 ![1] bcast_S1_S1x1_1 (constantI S1 32 28#32)))))
          (constantI S_ 1 1#1) reducesTo_S512x1_S512_d1 h_S_))
        (Host.gather gather_S29x16_S512x1_S512x16_1_0_n_n_0_1_116 T (broadcastInDim S512x1 ![0] bcast_S512_S512x1_0
          (wrapped idx (broadcastInDim S512 ![] bcast_S_S512 (constantI S_ 32 0#32)) size))) fill (ix2 b d)
      = T (ix2 (t b) d) := by
  have hw : ∀ b, wrapped idx (broadcastInDim S512 ![] bcast_S_S512 (constantI S_ 32 0#32)) size (ix1 b)
      = BitVec.ofNat 32 (t b).val := fun b => by
    show Scalar.select (IntOp.cmpi .slt (idx (ix1 b)) 0#32) (IntOp.addi (idx (ix1 b)) (size (ix1 b))) (idx (ix1 b)) = _
    rw [ht]
    have hs : ∀ v : Fin 29, IntOp.cmpi .slt (BitVec.ofNat 32 v.val) 0#32 = 0#1 := by decide
    rw [hs]
    rfl
  generalize wrapped idx (broadcastInDim S512 ![] bcast_S_S512 (constantI S_ 32 0#32)) size = W at hw ⊢
  have hc : ∀ (b : Fin 512) (z : Fin 1), broadcastInDim S512x1 ![0] bcast_S512_S512x1_0 W (ix2 b z) = BitVec.ofNat 32 (t b).val := fun b z => by
    rw [← hw]
    pointwise []
  generalize broadcastInDim S512x1 ![0] bcast_S512_S512x1_0 W = C at hc ⊢
  show Scalar.select (Host.reduce IntOp.andi _ _ reducesTo_S512x1_S512_d1 h_S_ _) _ _ = _
  rw [Host.reduce_andi_one]
  · exact Routing.gather_row gather_S29x16_S512x1_S512x16_1_0_n_n_0_1_116 rfl rfl rfl rfl rfl T C b d (t b) (hc b 0) (by decide)
  · rfl
  · intro i
    obtain ⟨b', z, rfl⟩ : ∃ b' z, i = ix2 b' z := ⟨i 0, i 1, by funext a; match a with | ⟨0, _⟩ => rfl | ⟨1, _⟩ => rfl⟩
    show IntOp.andi (IntOp.cmpi .sge (C (ix2 b' z)) 0#32) (IntOp.cmpi .sle (C (ix2 b' z)) 28#32) = 1#1
    rw [hc]
    have hs : ∀ v : Fin 29, IntOp.andi (IntOp.cmpi .sge (BitVec.ofNat 32 v.val) 0#32) (IntOp.cmpi .sle (BitVec.ofNat 32 v.val) 28#32) = 1#1 := by
      decide
    exact hs _

end Cert.ReferenceIdeal.Taking

end
-- ==== Proof.Reference.lean ====
module

public import proofs.«01_k».proof.Proof.Gen.ReferenceIdeal.Read
public import proofs.«01_k».proof.Proof.Taking
public import proofs.«01_k».proof.Proof.Maths

@[expose] public section

set_option maxRecDepth 16384

noncomputable section

namespace Cert.ReferenceIdeal.Layers

open Idealize.ShloMosaic Idealize.SL.Sem
open Cert.ReferenceIdeal Cert.ReferenceIdeal.Gen Cert.ReferenceIdeal.Facts Cert.ReferenceIdeal.Read Cert.ReferenceIdeal.Taking Cert.Maths

/-! ## The tables with scaled rows -/

/-- The tissue table with its rows scaled. -/
theorem tissue_table (x : FVec Ideal S29x16 .f32) (v : Fin 29) (d : Fin 16) : val_main_v9 (F := Ideal) x (ix2 v d) = renorm x v d := by
  pointwise [val_main_v9, val_main_v8, val_main_v7, val_main_v6, val_main_v5, val_main_v4, val_main_v3, val_main_v2, val_main_v1,
    val_main_cst, val_main_cst_0, val_main_cst_1, val_main_call0_v2, val_main_call0_v1, val_main_call0_cst, val_main_call0_v0]
  rfl

/-- The first token table with its rows scaled. -/
theorem first_table (x : FVec Ideal S5x16 .f32) (v : Fin 5) (d : Fin 16) : val_main_v19 (F := Ideal) x (ix2 v d) = renorm x v d := by
  pointwise [val_main_v19, val_main_v18, val_main_v17, val_main_v16, val_main_v15, val_main_v14, val_main_v13, val_main_v12, val_main_v11,
    val_main_cst_2, val_main_cst_3, val_main_cst_4, val_main_call2_v2, val_main_call2_v1, val_main_call2_cst, val_main_call2_v0]
  rfl

/-- The second token table with its rows scaled. -/
theorem second_table (x : FVec Ideal S4x16 .f32) (v : Fin 4) (d : Fin 16) : val_main_v31 (F := Ideal) x (ix2 v d) = renorm x v d := by
  pointwise [val_main_v31, val_main_v30, val_main_v29, val_main_v28, val_main_v27, val_main_v26, val_main_v25, val_main_v24, val_main_v23,
    val_main_cst_5, val_main_cst_6, val_main_cst_7, val_main_call4_v2, val_main_call4_v1, val_main_call4_cst, val_main_call4_v0]
  rfl

/-- The third token table with its rows scaled. -/
theorem third_table (x : FVec Ideal S8x16 .f32) (v : Fin 8) (d : Fin 16) : val_main_v43 (F := Ideal) x (ix2 v d) = renorm x v d := by
  pointwise [val_main_v43, val_main_v42, val_main_v41, val_main_v40, val_main_v39, val_main_v38, val_main_v37, val_main_v36, val_main_v35,
    val_main_cst_8, val_main_cst_9, val_main_cst_10, val_main_call6_v2, val_main_call6_v1, val_main_call6_cst, val_main_call6_v0]
  rfl

/-! ## The rows that the codes select -/

/-- Taking rows of the tissue table by the tissues' codes. -/
theorem tissue_rows (x1 : IVec S512 32) (x2 : FVec Ideal S29x16 .f32) (t : Fin 512 → Fin 29)
    (ht : ∀ b, x1 (ix1 b) = BitVec.ofNat 32 (t b).val) (b : Fin 512) (d : Fin 16) :
    val_main_v10 (F := Ideal) x1 x2 (ix2 b d) = renorm x2 (t b) d := by
  rw [← tissue_table]
  exact take_tissue (val_main_v9 (F := Ideal) x2) x1 _ _ t ht b d

section
variable (x0 : IVec S512x2048x3 32) (R : Fin 512 → Fin 2048 → Fin 3 → Fin 4) (hR : ∀ b l k, x0 (ix3 b l k) = BitVec.ofNat 32 (R b l k).val)
include hR

/-- Taking rows of the first token table by the first code of each position. -/
theorem first_rows (x : FVec Ideal S5x16 .f32) (b : Fin 512) (l : Fin 2048) (d : Fin 16) :
    val_main_v22 (F := Ideal) x0 x (ix3 b l d) = renorm x (Fin.castLE (by decide : 4 ≤ 5) (R b l 0)) d := by
  rw [← first_table]
  refine take_rows (by decide) (by decide) _ (val_main_v19 (F := Ideal) x) (val_main_v21 (F := Ideal) x0) _ 4#32 (by decide) _
    (fun b l => R b l 0) (fun b l => ?_) b l d
  rw [← hR]
  pointwise [val_main_v21, val_main_v20, val_main_v0]

/-- Taking rows of the second token table by the second code of each position. -/
theorem second_rows (x : FVec Ideal S4x16 .f32) (b : Fin 512) (l : Fin 2048) (d : Fin 16) :
    val_main_v34 (F := Ideal) x0 x (ix3 b l d) = renorm x (Fin.castLE (by decide : 4 ≤ 4) (R b l 1)) d := by
  rw [← second_table]
  refine take_rows (by decide) (by decide) _ (val_main_v31 (F := Ideal) x) (val_main_v33 (F := Ideal) x0) _ 3#32 (by decide) _
    (fun b l => R b l 1) (fun b l => ?_) b l d
  rw [← hR]
  pointwise [val_main_v33, val_main_v32, val_main_v0]

/-- Taking rows of the third token table by the third code of each position. -/
theorem third_rows (x : FVec Ideal S8x16 .f32) (b : Fin 512) (l : Fin 2048) (d : Fin 16) :
    val_main_v46 (F := Ideal) x0 x (ix3 b l d) = renorm x (Fin.castLE (by decide : 4 ≤ 8) (R b l 2)) d := by
  rw [← third_table]
  refine take_rows (by decide) (by decide) _ (val_main_v43 (F := Ideal) x) (val_main_v45 (F := Ideal) x0) _ 7#32 (by decide) _
    (fun b l => R b l 2) (fun b l => ?_) b l d
  rw [← hR]
  pointwise [val_main_v45, val_main_v44, val_main_v0]

/-! ## The pools' means -/

/-- The pools' means over the first token table. -/
theorem first_mean (x : FVec Ideal S5x16 .f32) (b : Fin 512) (p : Fin 128) (d : Fin 16) :
    val_main_v52 (F := Ideal) x0 x (ix3 b p d) = mean (by decide : 4 ≤ 5) x d (window R 0 b p) := by
  unfold mean window
  simp only [← first_rows x0 R hR]
  pointwise [val_main_v52, val_main_v51, val_main_v50, val_main_v49, val_main_v48, val_main_v47, val_main_cst_11, val_main_cst_12]

/-- The pools' means over the second token table. -/
theorem second_mean (x : FVec Ideal S4x16 .f32) (b : Fin 512) (p : Fin 128) (d : Fin 16) :
    val_main_v58 (F := Ideal) x0 x (ix3 b p d) = mean (by decide : 4 ≤ 4) x d (window R 1 b p) := by
  unfold mean window
  simp only [← second_rows x0 R hR]
  pointwise [val_main_v58, val_main_v57, val_main_v56, val_main_v55, val_main_v54, val_main_v53, val_main_cst_13, val_main_cst_14]

/-- The pools' means over the third token table. -/
theorem third_mean (x : FVec Ideal S8x16 .f32) (b : Fin 512) (p : Fin 128) (d : Fin 16) :
    val_main_v64 (F := Ideal) x0 x (ix3 b p d) = mean (by decide : 4 ≤ 8) x d (window R 2 b p) := by
  unfold mean window
  simp only [← third_rows x0 R hR]
  pointwise [val_main_v64, val_main_v63, val_main_v62, val_main_v61, val_main_v60, val_main_v59, val_main_cst_15, val_main_cst_16]

end

/-! ## The feature matrix -/

/-- The joined means at column `16 k + d` are the means of table `k` at column `d`. -/
theorem joined (A : Fin 3 → FVec Ideal S512x128x16 .f32) (b : Fin 512) (p : Fin 128) (k : Fin 3) (d : Fin 16) :
    concatenate S512x128x48 2 [⟨S512x128x16, A 0⟩, ⟨S512x128x16, A 1⟩, ⟨S512x128x16, A 2⟩]
        concatenates_S512x128x16_S512x128x16_S512x128x16_S512x128x48_d2 (ix3 b p ⟨k.val * 16 + d.val, by omega⟩) = A k (ix3 b p d) := by
  refine concatenate_apply_piece (t := S512x128x48) 2 [⟨S512x128x16, A 0⟩, ⟨S512x128x16, A 1⟩, ⟨S512x128x16, A 2⟩]
    concatenates_S512x128x16_S512x128x16_S512x128x16_S512x128x48_d2 (ix3 b p ⟨k.val * 16 + d.val, by omega⟩) k.val k.isLt S512x128x16 (A k) (by fin_cases k <;> rfl) rfl (k.val * 16)
    (by fin_cases k <;> rfl) (ix3 b p d) ?_ rfl
  intro a ha
  match a with
  | ⟨0, _⟩ => rfl
  | ⟨1, _⟩ => rfl
  | ⟨2, _⟩ => exact absurd rfl ha

section
variable (x0 : IVec S512x2048x3 32) (x1 : IVec S512 32) (x2 : FVec Ideal S29x16 .f32) (x3 : FVec Ideal S5x16 .f32) (x4 : FVec Ideal S4x16 .f32)
  (x5 : FVec Ideal S8x16 .f32)

/-- The first sixteen columns of the feature matrix are the tissues' rows. -/
theorem features_tissue (b : Fin 512) (d : Fin 16) :
    val_main_v67 (F := Ideal) x0 x1 x2 x3 x4 x5 (ix2 b (tissueRow d)) = val_main_v10 (F := Ideal) x1 x2 (ix2 b d) := by
  unfold val_main_v67
  refine concatenate_pair_apply_left (t := S512x6160) (s₁ := S512x16) (s₂ := S512x6144) 1 _ _ _ (ix2 b (tissueRow d)) rfl (ix2 b d) fun a => ?_
  match a with
  | ⟨0, _⟩ => rfl
  | ⟨1, _⟩ => rfl

/-- The other columns hold, position by position, the three tables' means. -/
theorem features_pooled (b : Fin 512) (k : Fin 3) (d : Fin 16) (p : Fin 128) :
    val_main_v67 (F := Ideal) x0 x1 x2 x3 x4 x5 (ix2 b (sourceRow k d p))
      = (![val_main_v52 (F := Ideal) x0 x3, val_main_v58 (F := Ideal) x0 x4, val_main_v64 (F := Ideal) x0 x5] k) (ix3 b p d) := by
  unfold val_main_v67
  rw [concatenate_pair_apply_right (t := S512x6160) (s₁ := S512x16) (s₂ := S512x6144) 1 _ _ _ (ix2 b (sourceRow k d p)) rfl rfl
    (ix2 b (⟨p.val * 48 + (k.val * 16 + d.val), by omega⟩ : Fin 6144))]
  · rw [val_main_v66_apply]
    refine Eq.trans (congrArg (val_main_v65 (F := Ideal) x0 x3 x4 x5) ?_)
      (joined ![val_main_v52 (F := Ideal) x0 x3, val_main_v58 (F := Ideal) x0 x4, val_main_v64 (F := Ideal) x0 x5] b p k d)
    funext a
    apply Fin.ext
    match a with
    | ⟨0, _⟩ => show (b.val * 6144 + (p.val * 48 + (k.val * 16 + d.val))) / 6144 = b.val; omega
    | ⟨1, _⟩ => show (b.val * 6144 + (p.val * 48 + (k.val * 16 + d.val))) / 48 % 128 = p.val; omega
    | ⟨2, _⟩ => show (b.val * 6144 + (p.val * 48 + (k.val * 16 + d.val))) % 48 = k.val * 16 + d.val; omega
  · intro a ha
    match a with
    | ⟨0, _⟩ => rfl
    | ⟨1, _⟩ => exact absurd rfl ha
  · exact Nat.add_comm _ _

end

/-! ## The layers -/

/-- What the reference returns at batch row `b`, from its feature matrix. -/
theorem layers_apply (x0 : IVec S512x2048x3 32) (x1 : IVec S512 32) (x2 : FVec Ideal S29x16 .f32) (x3 : FVec Ideal S5x16 .f32)
    (x4 : FVec Ideal S4x16 .f32) (x5 : FVec Ideal S8x16 .f32) (x6 : FVec Ideal S6160x128 .f32) (x7 : FVec Ideal S128 .f32)
    (x8 : FVec Ideal S128x64 .f32) (x9 : FVec Ideal S64 .f32) (x10 : FVec Ideal S64x1 .f32) (x11 : FVec Ideal S1 .f32) (b : Fin 512) :
    val_main_v83 (F := Ideal) x0 x1 x2 x3 x4 x5 x6 x7 x8 x9 x10 x11 (ix2 b 0)
      = net (fun i => ∑ q : Fin 6160, val_main_v67 (F := Ideal) x0 x1 x2 x3 x4 x5 (ix2 b q) * x6 (ix2 q i)) (fun i => x7 (ix1 i))
          (fun i j => x8 (ix2 i j)) (fun j => x9 (ix1 j)) (fun j => x10 (ix2 j 0)) (x11 (ix1 0)) := by
  unfold net
  pointwise [val_main_v83, val_main_v82, val_main_v81, val_main_v80, val_main_v79, val_main_v78, val_main_v77, val_main_v76, val_main_v75,
    val_main_v74, val_main_v73, val_main_v72, val_main_v71, val_main_v70, val_main_v69, val_main_v68, val_main_cst_17, val_main_cst_18]

end Cert.ReferenceIdeal.Layers

end
-- ==== Proof.Equation.lean ====
module

public import proofs.«01_k».proof.Proof.Entry
public import proofs.«01_k».proof.Proof.Reference

@[expose] public section

set_option maxRecDepth 16384

noncomputable section

namespace Cert.Equation

open Idealize.ShloMosaic Idealize.SL.Sem
open Cert.KernelIdeal Cert.KernelIdeal.Gen Cert.KernelIdeal.Columns Cert.KernelIdeal.Array Cert.ReferenceIdeal.Read Cert.Maths

section
variable (x0 : IVec S512x2048x3 32) (x1 : IVec S512 32) (x2 : FVec Ideal S29x16 .f32) (x3 : FVec Ideal S5x16 .f32)
  (x4 : FVec Ideal S4x16 .f32) (x5 : FVec Ideal S8x16 .f32) (R : Fin 512 → Fin 2048 → Fin 3 → Fin 4) (t : Fin 512 → Fin 29)
  (hR : ∀ b l k, x0 (ix3 b l k) = BitVec.ofNat 32 (R b l k).val) (ht : ∀ b, x1 (ix1 b) = BitVec.ofNat 32 (t b).val)
  (y0 : Vec Ideal S16x512x128 .i8) (y1 : Vec Ideal S512x1 .i32)
  (h0 : ∀ w b p, y0 (ix3 w b p) = packed fun k => window R k b p w) (h1 : ∀ b, y1 (ix2 b 0) = x1 (ix1 b))
include ht h1

/-- Kernel and reference find the same tissue features. -/
theorem features_tissue (b : Fin 512) (d : Fin 16) :
    features (F := Ideal) y0 y1 x2 x3 x4 x5 (ix2 b (tissueRow d)) = val_main_v67 (F := Ideal) x0 x1 x2 x3 x4 x5 (ix2 b (tissueRow d)) := by
  rw [Block.features_tissue, Block.tissue_apply y1 x2 b (t b) ((h1 b).trans (ht b)) d]
  exact ((Cert.ReferenceIdeal.Layers.features_tissue x0 x1 x2 x3 x4 x5 b d).trans
    (Cert.ReferenceIdeal.Layers.tissue_rows x1 x2 t ht b d)).symm

omit ht h1
include hR h0

/-- Kernel and reference find the same pooled features, each in its own column. -/
theorem features_pooled (b : Fin 512) (k : Fin 3) (d : Fin 16) (p : Fin 128) :
    features (F := Ideal) y0 y1 x2 x3 x4 x5 (ix2 b (kernelRow k d p))
      = val_main_v67 (F := Ideal) x0 x1 x2 x3 x4 x5 (ix2 b (sourceRow k d p)) := by
  rw [Cert.ReferenceIdeal.Layers.features_pooled x0 x1 x2 x3 x4 x5 b k d p]
  have hk : k = 0 ∨ k = 1 ∨ k = 2 := by omega
  rcases hk with rfl | rfl | rfl
  · exact (Block.features_first y0 y1 x2 x3 x4 x5 R h0 b d p).trans (Cert.ReferenceIdeal.Layers.first_mean x0 R hR x3 b p d).symm
  · exact (Block.features_second y0 y1 x2 x3 x4 x5 R h0 b d p).trans (Cert.ReferenceIdeal.Layers.second_mean x0 R hR x4 b p d).symm
  · exact (Block.features_third y0 y1 x2 x3 x4 x5 R h0 b d p).trans (Cert.ReferenceIdeal.Layers.third_mean x0 R hR x5 b p d).symm

end

/-- From codes in range, the array that the kernel leaves is the reference's result over the same arguments. -/
theorem array_eq (m : (ℓ : Loc nD τ sig) → Buf (Elt Ideal) ℓ) (c : Dev nD) (R : Fin 512 → Fin 2048 → Fin 3 → Fin 4) (t : Fin 512 → Fin 29)
    (hR : ∀ b l k, m ((c.tc : Thread nD τ).loc main_arg0) (ix3 b l k) = BitVec.ofNat 32 (R b l k).val)
    (ht : ∀ b, m ((c.tc : Thread nD τ).loc main_arg1) (ix1 b) = BitVec.ofNat 32 (t b).val) :
    (dats m 0 c).arrAt 12 cfg0.N
      = val_main_v83 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) := by
  rw [final, V_main_arg2, V_main_arg3, V_main_arg4, V_main_arg5, V_main_arg8, V_main_arg10]
  funext i
  obtain ⟨b, rfl⟩ : ∃ b : Fin 512, i = ix2 b 0 := ⟨i 0, by blk_ext []⟩
  refine (Block.layers_apply _ _ _ _ _ _ _ b).trans (Eq.trans ?_ (Cert.ReferenceIdeal.Layers.layers_apply _ _ _ _ _ _ _ _ _ _ _ _ b).symm)
  refine net_congr _ _ (fun i => ?_) (entry_bias1 m c) (entry_bias2 m c) (entry_bias3 m c)
  refine sum_rows
    (fun q => features (F := Ideal) (V m c main_v14) (V m c main_v15) (m ((c.tc : Thread nD τ).loc main_arg2))
      (m ((c.tc : Thread nD τ).loc main_arg3)) (m ((c.tc : Thread nD τ).loc main_arg4)) (m ((c.tc : Thread nD τ).loc main_arg5)) (ix2 b q))
    (fun q => V m c main_v21 (ix2 q i))
    (fun q => val_main_v67 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (ix2 b q))
    (fun q => m ((c.tc : Thread nD τ).loc main_arg6) (ix2 q i)) ?_ ?_ ?_ ?_
  · exact features_tissue _ _ _ _ _ _ t ht _ _ (entry_tissue m c) b
  · exact fun d => entry_weights_tissue m c d i
  · exact features_pooled _ _ _ _ _ _ R hR _ _ (entry_words m c R hR) b
  · exact fun k d p => entry_weights m c k d p i

end Cert.Equation

end
-- ==== Proof.Range.lean ====
module

public import proofs.«01_k».proof.Proof.Gen.Pre_in_range
public import Idealize.ShloMosaic.Lib.ReduceAll
public import Idealize.ShloMosaic.Lib.Pointwise

@[expose] public section

set_option maxRecDepth 16384

noncomputable section

namespace Cert.Pre_in_range.Codes

open Idealize.ShloMosaic Idealize.SL.Sem
open Cert.Pre_in_range

/-- A word that compares as at least zero and at most `n - 1` is the word of a number below `n`. -/
theorem code_of_bounds {n : Nat} (hn : 0 < n) (hb : n < 2 ^ 31) (x : BitVec 32) (h0 : IntOp.cmpi .sge x 0#32 = 1#1)
    (h1 : IntOp.cmpi .sle x (BitVec.ofNat 32 (n - 1)) = 1#1) : ∃ v : Fin n, x = BitVec.ofNat 32 v.val := by
  rw [IntOp.cmpi_sge] at h0
  rw [IntOp.cmpi_sle] at h1
  have e0 : (0#32 : BitVec 32).toInt = 0 := rfl
  have e1 : (BitVec.ofNat 32 (n - 1)).toInt = ((n - 1 : Nat) : Int) := by
    rw [BitVec.toInt_eq_toNat_cond, BitVec.toNat_ofNat]; omega
  have hx := x.isLt
  have ex := BitVec.toInt_eq_toNat_cond x
  have hlt : x.toNat < n := by
    rw [e0] at h0
    rw [e1] at h1
    split at ex <;> omega
  exact ⟨⟨x.toNat, hlt⟩, by simp⟩

/-- The precondition read back: every token code is one of four, and every tissue id one of twenty-nine. -/
theorem codes (x0 : IVec S512x2048x3 32) (x1 : IVec S512 32) (x2 : FVec Ideal S29x16 .f32) (x3 : FVec Ideal S5x16 .f32)
    (x4 : FVec Ideal S4x16 .f32) (x5 : FVec Ideal S8x16 .f32) (x6 : FVec Ideal S6160x128 .f32) (x7 : FVec Ideal S128 .f32)
    (x8 : FVec Ideal S128x64 .f32) (x9 : FVec Ideal S64 .f32) (x10 : FVec Ideal S64x1 .f32) (x11 : FVec Ideal S1 .f32) (j : S_.Idx)
    (h : fn (F := Ideal) x0 x1 x2 x3 x4 x5 x6 x7 x8 x9 x10 x11 j = 1#1) :
    (∃ R : Fin 512 → Fin 2048 → Fin 3 → Fin 4, ∀ b l k, x0 (ix3 b l k) = BitVec.ofNat 32 (R b l k).val)
    ∧ ∃ t : Fin 512 → Fin 29, ∀ b, x1 (ix1 b) = BitVec.ofNat 32 (t b).val := by
  haveI : Subsingleton S_.Idx := ⟨fun a b => funext fun i => i.elim0⟩
  obtain ⟨h, h3⟩ := IntOp.andi_eq_one.1 h
  obtain ⟨h, h2⟩ := IntOp.andi_eq_one.1 h
  obtain ⟨h0, h1⟩ := IntOp.andi_eq_one.1 h
  have c0 (b l k) := code_of_bounds (n := 4) (by decide) (by decide) (x0 (ix3 b l k))
    (Host.reduce_andi_all _ _ _ _ _ h0 (ix3 b l k)) (Host.reduce_andi_all _ _ _ _ _ h1 (ix3 b l k))
  have c1 (b) := code_of_bounds (n := 29) (by decide) (by decide) (x1 (ix1 b))
    (Host.reduce_andi_all _ _ _ _ _ h2 (ix1 b)) (Host.reduce_andi_all _ _ _ _ _ h3 (ix1 b))
  choose R hR using c0
  choose t ht using c1
  exact ⟨⟨R, hR⟩, t, ht⟩

end Cert.Pre_in_range.Codes

end
-- ==== Proof.Result.lean ====
module

public import proofs.«01_k».proof.Proof.Gen.ReferenceIdeal.Read
public import Idealize.ShloMosaic.Lib.Claim

@[expose] public section

set_option maxRecDepth 16384

noncomputable section

namespace Cert.ReferenceIdeal.Result

open Idealize.ShloMosaic Idealize.SL.Sem
open Cert.ReferenceIdeal Cert.ReferenceIdeal.Read

/-- The reference's result, as the generated reading of its operations names it. -/
theorem result (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v83)
        = val_main_v83 (F := Ideal)
            (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11)) :=
  θ_run_mono (Cert.ReferenceIdeal.Value.run m g) fun _ h c => (h c).1.trans (val_main_v83_eq (StableHlo.launchContents m c))

end Cert.ReferenceIdeal.Result

end
-- ==== Proof.lean ====
/- The kernel and the reference run and leave their arguments as they found them, the idealised kernel is the kernel's own text, and over
   the extended reals the kernel's result is the reference's whenever the integer codes are in range. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_in_range
public import proofs.«01_k».proof.Proof.Equation
public import proofs.«01_k».proof.Proof.Range
public import proofs.«01_k».proof.Proof.Result
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference runs, leaves its arguments as it found them, and has no semaphore to leave raised. -/
theorem reference_frame : Cert.quiescent_ReferenceIdeal := fun m g _ =>
  θ_run_mono (Cert.ReferenceIdeal.Value.run m g) fun r h => ⟨fun c => (h c).2, sem_eq_zero_of_no_sems rfl r.2⟩

/-- Over the extended reals, from equal arguments whose codes are in range, kernel and reference end with equal results. -/
theorem algebraic : Cert.algebraic_KernelIdeal_ReferenceIdeal_pre_in_range := by
  pair_intro
  · run_from Cert.KernelIdeal.Value.run_blocks m g
  · run_from Cert.ReferenceIdeal.Result.result m' g' & reference_frame m' g' trivial
    obtain ⟨⟨R, hR⟩, t, ht⟩ := Cert.Pre_in_range.Codes.codes _ _ _ _ _ _ _ _ _ _ _ _ (fun a => a.elim0) (congrFun (hpre c) _)
    exact (Cert.Equation.array_eq m c R t hR ht).symm

/-- Everything claimed: the frames, the idealised kernel's text, and the equal results. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  reference_frame, fun m g _ => reference_frame m g trivial, trivial, algebraic⟩

end Cert.Proof

end
